-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_v151_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x384x2048 : Shape := ⟨3, ![5, 384, 2048]⟩
abbrev S2048 : Shape := ⟨1, ![2048]⟩
abbrev S512x1536 : Shape := ⟨2, ![512, 1536]⟩
abbrev S1 : Shape := ⟨1, ![1]⟩
abbrev S1920x2048 : Shape := ⟨2, ![1920, 2048]⟩
abbrev S1x2048 : Shape := ⟨2, ![1, 2048]⟩
abbrev S1920x1536 : Shape := ⟨2, ![1920, 1536]⟩
abbrev S5x384 : Shape := ⟨2, ![5, 384]⟩
abbrev S384x2048 : Shape := ⟨2, ![384, 2048]⟩
abbrev S384x1536 : Shape := ⟨2, ![384, 1536]⟩
abbrev S8x3x256x256 : Shape := ⟨4, ![8, 3, 256, 256]⟩
abbrev S2048x1536 : Shape := ⟨2, ![2048, 1536]⟩
abbrev S256x256 : Shape := ⟨2, ![256, 256]⟩
abbrev S1x128 : Shape := ⟨2, ![1, 128]⟩
abbrev S128x128 : Shape := ⟨2, ![128, 128]⟩
abbrev S1x1x128x128 : Shape := ⟨4, ![1, 1, 128, 128]⟩
abbrev S128x1536 : Shape := ⟨2, ![128, 1536]⟩
abbrev S384x256 : Shape := ⟨2, ![384, 256]⟩
abbrev S1x1x256x256 : Shape := ⟨4, ![1, 1, 256, 256]⟩
abbrev S384 : Shape := ⟨1, ![384]⟩
abbrev S384x1 : Shape := ⟨2, ![384, 1]⟩
abbrev S384x128 : Shape := ⟨2, ![384, 128]⟩
abbrev S128x384 : Shape := ⟨2, ![128, 384]⟩
abbrev S1x384 : Shape := ⟨2, ![1, 384]⟩

abbrev nBuf : Space → Nat
  | .hbm => 9
  | .vmem => 11
  | .smem => 1
  | _ => 0

abbrev bufTy : (tb : Table) → Fin (tcTables nBuf tb) → BufTy
  | .hbm, ⟨0, _⟩ => ⟨S5x384x2048, .bf16⟩
  | .hbm, ⟨1, _⟩ => ⟨S2048, .f32⟩
  | .hbm, ⟨2, _⟩ => ⟨S512x1536, .i8⟩
  | .hbm, ⟨3, _⟩ => ⟨S1, .f32⟩
  | .hbm, ⟨4, _⟩ => ⟨S1920x2048, .bf16⟩
  | .hbm, ⟨5, _⟩ => ⟨S1x2048, .f32⟩
  | .hbm, ⟨6, _⟩ => ⟨S1920x1536, .bf16⟩
  | .hbm, ⟨7, _⟩ => ⟨S1920x2048, .i8⟩
  | .hbm, ⟨8, _⟩ => ⟨S5x384, .f32⟩
  | .local _ .vmem, ⟨0, _⟩ => ⟨S384x2048, .bf16⟩
  | .local _ .vmem, ⟨1, _⟩ => ⟨S384x2048, .bf16⟩
  | .local _ .vmem, ⟨2, _⟩ => ⟨S1x2048, .f32⟩
  | .local _ .vmem, ⟨3, _⟩ => ⟨S512x1536, .i8⟩
  | .local _ .vmem, ⟨4, _⟩ => ⟨S384x1536, .bf16⟩
  | .local _ .vmem, ⟨5, _⟩ => ⟨S384x1536, .bf16⟩
  | .local _ .vmem, ⟨6, _⟩ => ⟨S384x2048, .i8⟩
  | .local _ .vmem, ⟨7, _⟩ => ⟨S384x2048, .i8⟩
  | .local _ .vmem, ⟨8, _⟩ => ⟨S5x384, .f32⟩
  | .local _ .vmem, ⟨9, _⟩ => ⟨S8x3x256x256, .bf16⟩
  | .local _ .vmem, ⟨10, _⟩ => ⟨S2048x1536, .fp8e4m3⟩
  | .local _ .smem, ⟨0, _⟩ => ⟨S1, .f32⟩
  | _, _ => ⟨S5x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let v280 : Index := Scalar.indexCast arg0
  let c0_161 : Index := 0#32
  ![v280.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S5x384x2048 : Shape := ⟨3, ![5, 384, 2048]⟩
abbrev S2048 : Shape := ⟨1, ![2048]⟩
abbrev S512x1536 : Shape := ⟨2, ![512, 1536]⟩
abbrev S1 : Shape := ⟨1, ![1]⟩
abbrev S_ : Shape := ⟨0, ![]⟩
abbrev S5x384 : Shape := ⟨2, ![5, 384]⟩
abbrev S5x384x1 : Shape := ⟨3, ![5, 384, 1]⟩
abbrev S1x1x2048 : Shape := ⟨3, ![1, 1, 2048]⟩
abbrev S5x384x1x2x1024 : Shape := ⟨5, ![5, 384, 1, 2, 1024]⟩
abbrev S5x384x1x1x1024 : Shape := ⟨5, ![5, 384, 1, 1, 1024]⟩
abbrev S5x384x1x1024 : Shape := ⟨4, ![5, 384, 1, 1024]⟩
abbrev S5x384x2x2x512 : Shape := ⟨5, ![5, 384, 2, 2, 512]⟩
abbrev S5x384x2x1x512 : Shape := ⟨5, ![5, 384, 2, 1, 512]⟩
abbrev S5x384x2x512 : Shape := ⟨4, ![5, 384, 2, 512]⟩
abbrev S5x384x4x2x256 : Shape := ⟨5, ![5, 384, 4, 2, 256]⟩
abbrev S5x384x4x1x256 : Shape := ⟨5, ![5, 384, 4, 1, 256]⟩
abbrev S5x384x4x256 : Shape := ⟨4, ![5, 384, 4, 256]⟩
abbrev S5x384x8x2x128 : Shape := ⟨5, ![5, 384, 8, 2, 128]⟩
abbrev S5x384x8x1x128 : Shape := ⟨5, ![5, 384, 8, 1, 128]⟩
abbrev S5x384x8x128 : Shape := ⟨4, ![5, 384, 8, 128]⟩
abbrev S5x384x16x2x64 : Shape := ⟨5, ![5, 384, 16, 2, 64]⟩
abbrev S5x384x16x1x64 : Shape := ⟨5, ![5, 384, 16, 1, 64]⟩
abbrev S5x384x16x64 : Shape := ⟨4, ![5, 384, 16, 64]⟩
abbrev S5x384x32x2x32 : Shape := ⟨5, ![5, 384, 32, 2, 32]⟩
abbrev S5x384x32x1x32 : Shape := ⟨5, ![5, 384, 32, 1, 32]⟩
abbrev S5x384x32x32 : Shape := ⟨4, ![5, 384, 32, 32]⟩
abbrev S5x384x64x2x16 : Shape := ⟨5, ![5, 384, 64, 2, 16]⟩
abbrev S5x384x64x1x16 : Shape := ⟨5, ![5, 384, 64, 1, 16]⟩
abbrev S5x384x64x16 : Shape := ⟨4, ![5, 384, 64, 16]⟩
abbrev S5x384x128x2x8 : Shape := ⟨5, ![5, 384, 128, 2, 8]⟩
abbrev S5x384x128x1x8 : Shape := ⟨5, ![5, 384, 128, 1, 8]⟩
abbrev S5x384x128x8 : Shape := ⟨4, ![5, 384, 128, 8]⟩
abbrev S5x384x256x2x4 : Shape := ⟨5, ![5, 384, 256, 2, 4]⟩
abbrev S5x384x256x1x4 : Shape := ⟨5, ![5, 384, 256, 1, 4]⟩
abbrev S5x384x256x4 : Shape := ⟨4, ![5, 384, 256, 4]⟩
abbrev S5x384x512x2x2 : Shape := ⟨5, ![5, 384, 512, 2, 2]⟩
abbrev S5x384x512x1x2 : Shape := ⟨5, ![5, 384, 512, 1, 2]⟩
abbrev S5x384x512x2 : Shape := ⟨4, ![5, 384, 512, 2]⟩
abbrev S5x384x1024x2x1 : Shape := ⟨5, ![5, 384, 1024, 2, 1]⟩
abbrev S5x384x1024x1x1 : Shape := ⟨5, ![5, 384, 1024, 1, 1]⟩
abbrev S5x384x1024x1 : Shape := ⟨4, ![5, 384, 1024, 1]⟩
abbrev S5x384x512 : Shape := ⟨3, ![5, 384, 512]⟩
abbrev S5x384x1536 : Shape := ⟨3, ![5, 384, 1536]⟩
abbrev S1920x1536 : Shape := ⟨2, ![1920, 1536]⟩
abbrev S1920x2048 : Shape := ⟨2, ![1920, 2048]⟩

abbrev nBuf : Space → Nat
  | .hbm => 248
  | .vmem => 0
  | .smem => 0
  | _ => 0

abbrev hbmTy0_0 (i : Nat) : BufTy := match i % 128 with
  | 0 => ⟨S5x384x2048, .bf16⟩
  | 1 => ⟨S2048, .f32⟩
  | 2 => ⟨S512x1536, .i8⟩
  | 3 => ⟨S1, .f32⟩
  | 4 => ⟨S5x384x2048, .f32⟩
  | 5 => ⟨S5x384x2048, .f32⟩
  | 6 => ⟨S_, .f32⟩
  | 7 => ⟨S5x384, .f32⟩
  | 8 => ⟨S5x384x1, .f32⟩
  | 9 => ⟨S_, .f32⟩
  | 10 => ⟨S5x384x1, .f32⟩
  | 11 => ⟨S5x384x1, .f32⟩
  | 12 => ⟨S_, .f32⟩
  | 13 => ⟨S5x384x1, .f32⟩
  | 14 => ⟨S5x384x1, .f32⟩
  | 15 => ⟨S5x384x1, .f32⟩
  | 16 => ⟨S5x384x2048, .f32⟩
  | 17 => ⟨S5x384x2048, .f32⟩
  | 18 => ⟨S1x1x2048, .f32⟩
  | 19 => ⟨S5x384x2048, .f32⟩
  | 20 => ⟨S5x384x2048, .f32⟩
  | 21 => ⟨S5x384x1x2x1024, .f32⟩
  | 22 => ⟨S5x384x1x1x1024, .f32⟩
  | 23 => ⟨S5x384x1x1024, .f32⟩
  | 24 => ⟨S5x384x1x1x1024, .f32⟩
  | 25 => ⟨S5x384x1x1024, .f32⟩
  | 26 => ⟨S5x384x1x1024, .f32⟩
  | 27 => ⟨S5x384x1x1024, .f32⟩
  | 28 => ⟨S5x384x1x1x1024, .f32⟩
  | 29 => ⟨S5x384x1x1x1024, .f32⟩
  | 30 => ⟨S5x384x1x2x1024, .f32⟩
  | 31 => ⟨S5x384x2048, .f32⟩
  | 32 => ⟨S5x384x2x2x512, .f32⟩
  | 33 => ⟨S5x384x2x1x512, .f32⟩
  | 34 => ⟨S5x384x2x512, .f32⟩
  | 35 => ⟨S5x384x2x1x512, .f32⟩
  | 36 => ⟨S5x384x2x512, .f32⟩
  | 37 => ⟨S5x384x2x512, .f32⟩
  | 38 => ⟨S5x384x2x512, .f32⟩
  | 39 => ⟨S5x384x2x1x512, .f32⟩
  | 40 => ⟨S5x384x2x1x512, .f32⟩
  | 41 => ⟨S5x384x2x2x512, .f32⟩
  | 42 => ⟨S5x384x2048, .f32⟩
  | 43 => ⟨S5x384x4x2x256, .f32⟩
  | 44 => ⟨S5x384x4x1x256, .f32⟩
  | 45 => ⟨S5x384x4x256, .f32⟩
  | 46 => ⟨S5x384x4x1x256, .f32⟩
  | 47 => ⟨S5x384x4x256, .f32⟩
  | 48 => ⟨S5x384x4x256, .f32⟩
  | 49 => ⟨S5x384x4x256, .f32⟩
  | 50 => ⟨S5x384x4x1x256, .f32⟩
  | 51 => ⟨S5x384x4x1x256, .f32⟩
  | 52 => ⟨S5x384x4x2x256, .f32⟩
  | 53 => ⟨S5x384x2048, .f32⟩
  | 54 => ⟨S5x384x8x2x128, .f32⟩
  | 55 => ⟨S5x384x8x1x128, .f32⟩
  | 56 => ⟨S5x384x8x128, .f32⟩
  | 57 => ⟨S5x384x8x1x128, .f32⟩
  | 58 => ⟨S5x384x8x128, .f32⟩
  | 59 => ⟨S5x384x8x128, .f32⟩
  | 60 => ⟨S5x384x8x128, .f32⟩
  | 61 => ⟨S5x384x8x1x128, .f32⟩
  | 62 => ⟨S5x384x8x1x128, .f32⟩
  | 63 => ⟨S5x384x8x2x128, .f32⟩
  | 64 => ⟨S5x384x2048, .f32⟩
  | 65 => ⟨S5x384x16x2x64, .f32⟩
  | 66 => ⟨S5x384x16x1x64, .f32⟩
  | 67 => ⟨S5x384x16x64, .f32⟩
  | 68 => ⟨S5x384x16x1x64, .f32⟩
  | 69 => ⟨S5x384x16x64, .f32⟩
  | 70 => ⟨S5x384x16x64, .f32⟩
  | 71 => ⟨S5x384x16x64, .f32⟩
  | 72 => ⟨S5x384x16x1x64, .f32⟩
  | 73 => ⟨S5x384x16x1x64, .f32⟩
  | 74 => ⟨S5x384x16x2x64, .f32⟩
  | 75 => ⟨S5x384x2048, .f32⟩
  | 76 => ⟨S5x384x32x2x32, .f32⟩
  | 77 => ⟨S5x384x32x1x32, .f32⟩
  | 78 => ⟨S5x384x32x32, .f32⟩
  | 79 => ⟨S5x384x32x1x32, .f32⟩
  | 80 => ⟨S5x384x32x32, .f32⟩
  | 81 => ⟨S5x384x32x32, .f32⟩
  | 82 => ⟨S5x384x32x32, .f32⟩
  | 83 => ⟨S5x384x32x1x32, .f32⟩
  | 84 => ⟨S5x384x32x1x32, .f32⟩
  | 85 => ⟨S5x384x32x2x32, .f32⟩
  | 86 => ⟨S5x384x2048, .f32⟩
  | 87 => ⟨S5x384x64x2x16, .f32⟩
  | 88 => ⟨S5x384x64x1x16, .f32⟩
  | 89 => ⟨S5x384x64x16, .f32⟩
  | 90 => ⟨S5x384x64x1x16, .f32⟩
  | 91 => ⟨S5x384x64x16, .f32⟩
  | 92 => ⟨S5x384x64x16, .f32⟩
  | 93 => ⟨S5x384x64x16, .f32⟩
  | 94 => ⟨S5x384x64x1x16, .f32⟩
  | 95 => ⟨S5x384x64x1x16, .f32⟩
  | 96 => ⟨S5x384x64x2x16, .f32⟩
  | 97 => ⟨S5x384x2048, .f32⟩
  | 98 => ⟨S5x384x128x2x8, .f32⟩
  | 99 => ⟨S5x384x128x1x8, .f32⟩
  | 100 => ⟨S5x384x128x8, .f32⟩
  | 101 => ⟨S5x384x128x1x8, .f32⟩
  | 102 => ⟨S5x384x128x8, .f32⟩
  | 103 => ⟨S5x384x128x8, .f32⟩
  | 104 => ⟨S5x384x128x8, .f32⟩
  | 105 => ⟨S5x384x128x1x8, .f32⟩
  | 106 => ⟨S5x384x128x1x8, .f32⟩
  | 107 => ⟨S5x384x128x2x8, .f32⟩
  | 108 => ⟨S5x384x2048, .f32⟩
  | 109 => ⟨S5x384x256x2x4, .f32⟩
  | 110 => ⟨S5x384x256x1x4, .f32⟩
  | 111 => ⟨S5x384x256x4, .f32⟩
  | 112 => ⟨S5x384x256x1x4, .f32⟩
  | 113 => ⟨S5x384x256x4, .f32⟩
  | 114 => ⟨S5x384x256x4, .f32⟩
  | 115 => ⟨S5x384x256x4, .f32⟩
  | 116 => ⟨S5x384x256x1x4, .f32⟩
  | 117 => ⟨S5x384x256x1x4, .f32⟩
  | 118 => ⟨S5x384x256x2x4, .f32⟩
  | 119 => ⟨S5x384x2048, .f32⟩
  | 120 => ⟨S5x384x512x2x2, .f32⟩
  | 121 => ⟨S5x384x512x1x2, .f32⟩
  | 122 => ⟨S5x384x512x2, .f32⟩
  | 123 => ⟨S5x384x512x1x2, .f32⟩
  | 124 => ⟨S5x384x512x2, .f32⟩
  | 125 => ⟨S5x384x512x2, .f32⟩
  | 126 => ⟨S5x384x512x2, .f32⟩
  | 127 => ⟨S5x384x512x1x2, .f32⟩
  | _ => ⟨S5x384x2048, .bf16⟩

abbrev hbmTy0_1 (i : Nat) : BufTy := match i % 128 with
  | 0 => ⟨S5x384x512x1x2, .f32⟩
  | 1 => ⟨S5x384x512x2x2, .f32⟩
  | 2 => ⟨S5x384x2048, .f32⟩
  | 3 => ⟨S5x384x1024x2x1, .f32⟩
  | 4 => ⟨S5x384x1024x1x1, .f32⟩
  | 5 => ⟨S5x384x1024x1, .f32⟩
  | 6 => ⟨S5x384x1024x1x1, .f32⟩
  | 7 => ⟨S5x384x1024x1, .f32⟩
  | 8 => ⟨S5x384x1024x1, .f32⟩
  | 9 => ⟨S5x384x1024x1, .f32⟩
  | 10 => ⟨S5x384x1024x1x1, .f32⟩
  | 11 => ⟨S5x384x1024x1x1, .f32⟩
  | 12 => ⟨S5x384x1024x2x1, .f32⟩
  | 13 => ⟨S5x384x2048, .f32⟩
  | 14 => ⟨S_, .f32⟩
  | 15 => ⟨S5x384x2048, .f32⟩
  | 16 => ⟨S5x384x2048, .f32⟩
  | 17 => ⟨S5x384x2048, .f32⟩
  | 18 => ⟨S_, .f32⟩
  | 19 => ⟨S5x384, .f32⟩
  | 20 => ⟨S_, .f32⟩
  | 21 => ⟨S5x384, .f32⟩
  | 22 => ⟨S5x384, .i1⟩
  | 23 => ⟨S_, .f32⟩
  | 24 => ⟨S5x384, .f32⟩
  | 25 => ⟨S5x384, .f32⟩
  | 26 => ⟨S_, .f32⟩
  | 27 => ⟨S5x384, .f32⟩
  | 28 => ⟨S5x384, .f32⟩
  | 29 => ⟨S5x384x1, .f32⟩
  | 30 => ⟨S5x384x2048, .f32⟩
  | 31 => ⟨S5x384x2048, .f32⟩
  | 32 => ⟨S5x384x2048, .f32⟩
  | 33 => ⟨S_, .f32⟩
  | 34 => ⟨S_, .f32⟩
  | 35 => ⟨S_, .f32⟩
  | 36 => ⟨S5x384x2048, .f32⟩
  | 37 => ⟨S5x384x2048, .f32⟩
  | 38 => ⟨S_, .f32⟩
  | 39 => ⟨S5x384x2048, .f32⟩
  | 40 => ⟨S5x384x2048, .f32⟩
  | 41 => ⟨S5x384x2048, .i32⟩
  | 42 => ⟨S5x384x2048, .i8⟩
  | 43 => ⟨S5x384x2048, .i8⟩
  | 44 => ⟨S5x384, .f32⟩
  | 45 => ⟨S5x384x2048, .i32⟩
  | 46 => ⟨S5x384x2048, .f32⟩
  | 47 => ⟨S5x384x2048, .bf16⟩
  | 48 => ⟨S512x1536, .i32⟩
  | 49 => ⟨S_, .i32⟩
  | 50 => ⟨S512x1536, .i32⟩
  | 51 => ⟨S512x1536, .i32⟩
  | 52 => ⟨S_, .i32⟩
  | 53 => ⟨S512x1536, .i32⟩
  | 54 => ⟨S512x1536, .i32⟩
  | 55 => ⟨S512x1536, .i32⟩
  | 56 => ⟨S_, .i32⟩
  | 57 => ⟨S512x1536, .i32⟩
  | 58 => ⟨S512x1536, .i32⟩
  | 59 => ⟨S512x1536, .f32⟩
  | 60 => ⟨S512x1536, .bf16⟩
  | 61 => ⟨S5x384x512, .bf16⟩
  | 62 => ⟨S5x384x1536, .f32⟩
  | 63 => ⟨S512x1536, .i32⟩
  | 64 => ⟨S_, .i32⟩
  | 65 => ⟨S512x1536, .i32⟩
  | 66 => ⟨S512x1536, .i32⟩
  | 67 => ⟨S_, .i32⟩
  | 68 => ⟨S512x1536, .i32⟩
  | 69 => ⟨S512x1536, .i32⟩
  | 70 => ⟨S512x1536, .i32⟩
  | 71 => ⟨S_, .i32⟩
  | 72 => ⟨S512x1536, .i32⟩
  | 73 => ⟨S512x1536, .i32⟩
  | 74 => ⟨S512x1536, .f32⟩
  | 75 => ⟨S512x1536, .bf16⟩
  | 76 => ⟨S5x384x512, .bf16⟩
  | 77 => ⟨S5x384x1536, .f32⟩
  | 78 => ⟨S5x384x1536, .f32⟩
  | 79 => ⟨S512x1536, .i32⟩
  | 80 => ⟨S_, .i32⟩
  | 81 => ⟨S512x1536, .i32⟩
  | 82 => ⟨S512x1536, .i32⟩
  | 83 => ⟨S_, .i32⟩
  | 84 => ⟨S512x1536, .i32⟩
  | 85 => ⟨S512x1536, .i32⟩
  | 86 => ⟨S512x1536, .i32⟩
  | 87 => ⟨S_, .i32⟩
  | 88 => ⟨S512x1536, .i32⟩
  | 89 => ⟨S512x1536, .i32⟩
  | 90 => ⟨S512x1536, .f32⟩
  | 91 => ⟨S512x1536, .bf16⟩
  | 92 => ⟨S5x384x512, .bf16⟩
  | 93 => ⟨S5x384x1536, .f32⟩
  | 94 => ⟨S5x384x1536, .f32⟩
  | 95 => ⟨S512x1536, .i32⟩
  | 96 => ⟨S_, .i32⟩
  | 97 => ⟨S512x1536, .i32⟩
  | 98 => ⟨S512x1536, .i32⟩
  | 99 => ⟨S_, .i32⟩
  | 100 => ⟨S512x1536, .i32⟩
  | 101 => ⟨S512x1536, .i32⟩
  | 102 => ⟨S512x1536, .i32⟩
  | 103 => ⟨S_, .i32⟩
  | 104 => ⟨S512x1536, .i32⟩
  | 105 => ⟨S512x1536, .i32⟩
  | 106 => ⟨S512x1536, .f32⟩
  | 107 => ⟨S512x1536, .bf16⟩
  | 108 => ⟨S5x384x512, .bf16⟩
  | 109 => ⟨S5x384x1536, .f32⟩
  | 110 => ⟨S5x384x1536, .f32⟩
  | 111 => ⟨S5x384x1, .f32⟩
  | 112 => ⟨S5x384x1536, .f32⟩
  | 113 => ⟨S5x384x1536, .f32⟩
  | 114 => ⟨S_, .f32⟩
  | 115 => ⟨S5x384x1536, .f32⟩
  | 116 => ⟨S5x384x1536, .f32⟩
  | 117 => ⟨S5x384x1536, .bf16⟩
  | 118 => ⟨S1920x1536, .bf16⟩
  | 119 => ⟨S1920x2048, .i8⟩
  | _ => ⟨S5x384x2048, .bf16⟩

abbrev hbmTy (i : Nat) : BufTy := match i / 128 with
  | 0 => hbmTy0_0 i
  | 1 => hbmTy0_1 i
  | _ => ⟨S5x384x2048, .bf16⟩

abbrev bufTy : (tb : Table) → Fin (tcTables nBuf tb) → BufTy
  | .hbm, ⟨i, _⟩ => hbmTy i
  | _, _ => ⟨S5x384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_cst_2 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_cst_3 : Ref sig .tc := ⟨.hbm, 146, rfl⟩
abbrev main_v138 : Ref sig .tc := ⟨.hbm, 147, rfl⟩
abbrev main_cst_4 : Ref sig .tc := ⟨.hbm, 148, rfl⟩
abbrev main_v139 : Ref sig .tc := ⟨.hbm, 149, rfl⟩
abbrev main_v140 : Ref sig .tc := ⟨.hbm, 150, rfl⟩
abbrev main_cst_5 : Ref sig .tc := ⟨.hbm, 151, rfl⟩
abbrev main_v141 : Ref sig .tc := ⟨.hbm, 152, rfl⟩
abbrev main_v142 : Ref sig .tc := ⟨.hbm, 153, rfl⟩
abbrev main_cst_6 : Ref sig .tc := ⟨.hbm, 154, rfl⟩
abbrev main_call0_v0 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_cst_7 : Ref sig .tc := ⟨.hbm, 161, rfl⟩
abbrev main_cst_8 : Ref sig .tc := ⟨.hbm, 162, rfl⟩
abbrev main_call2_v0 : Ref sig .tc := ⟨.hbm, 163, rfl⟩
abbrev main_call2_v1 : Ref sig .tc := ⟨.hbm, 164, rfl⟩
abbrev main_call2_v2 : Ref sig .tc := ⟨.hbm, 165, rfl⟩
abbrev main_call2_v3 : Ref sig .tc := ⟨.hbm, 166, rfl⟩
abbrev main_call2_v4 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151_0 : Ref sig .tc := ⟨.hbm, 171, rfl⟩
abbrev main_v151_1 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_c : Ref sig .tc := ⟨.hbm, 177, rfl⟩
abbrev main_v156 : Ref sig .tc := ⟨.hbm, 178, rfl⟩
abbrev main_v157 : Ref sig .tc := ⟨.hbm, 179, rfl⟩
abbrev main_c_9 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_c_10 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_c_11 : Ref sig .tc := ⟨.hbm, 192, rfl⟩
abbrev main_v168 : Ref sig .tc := ⟨.hbm, 193, rfl⟩
abbrev main_v169 : Ref sig .tc := ⟨.hbm, 194, rfl⟩
abbrev main_c_12 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_c_13 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_c_14 : Ref sig .tc := ⟨.hbm, 208, rfl⟩
abbrev main_v181 : Ref sig .tc := ⟨.hbm, 209, rfl⟩
abbrev main_v182 : Ref sig .tc := ⟨.hbm, 210, rfl⟩
abbrev main_c_15 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_c_16 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_c_17 : Ref sig .tc := ⟨.hbm, 224, rfl⟩
abbrev main_v194 : Ref sig .tc := ⟨.hbm, 225, rfl⟩
abbrev main_v195 : Ref sig .tc := ⟨.hbm, 226, rfl⟩
abbrev main_c_18 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_c_19 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩

abbrev nD : Nat := 1
abbrev τ : Topo := Topo.v7x

variable {F : FTy → Type} [FloatOps F]
-- ==== Proof.Body.lean ====
/- The kernel body cut in two: what the first grid point builds (the sign blocks scaled by the norm's weight and the decoded weights), and
what every point does. Each half is run once on any whole staging memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one branch, from the grid coordinates. -/
abbrev cond (i : grid0.Coords) : Prop := (Scalar.cmpi .ne (Scalar.extui (Scalar.cmpi .eq (BitVec.ofNat 32 (i 0).val) 0#32)) 0#32) = 1#1

/-- It holds at the first point only. -/
theorem hcond : ∀ t : Fin cfg0.N, cond (grid0.coords t) ↔ t.val = 0 :=
  (fun t => by
    have ht : t.val < 5 := Nat.lt_of_lt_of_eq t.isLt N_0
    have e0 : (grid0.coords t 0).val = t.val / 1 % 5 := Pipeline.Grid.coords_val t 0 (by decide) rfl
    have e1 : t.val = 0 ↔ t.val % 5 = 0 := by omega
    rw [e1]
    simp only [cond, e0]
    word_cmp
   : ∀ t : Fin grid0.N, cond (grid0.coords t) ↔ t.val = 0)

/-- What the first point alone does: the two scratch arrays filled. -/
noncomputable def bld (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole) : Prog (TpuEff nD τ sig (Elt F) Λ₀ .tc) PUnit := do
  let ⟨v1251, v1252, v1253⟩ : Σ' (v1251 : IVec S128x1536 32) (v1252 : IVec S128x1536 32), IVec S128x1536 32 ← k0_part23 i arg1 harg1 arg2 harg2 arg3 harg3 arg4 harg4 arg5 harg5 arg6 harg6 arg7 harg7 arg8 harg8 arg9 harg9
  let v1257 : Vec F S512x1536 .fp8e4m3 ← Prog.lift (.load arg9 (Rect.unit (s := S2048x1536) ![1536, 0] S512x1536.size inb_S2048x1536_S512x1536_1536_0).toLoadRect (View.loadsAt_vmem h_S512x1536))
  Prog.lift (.store arg9 (Rect.unit (s := S2048x1536) ![1536, 0] S512x1536.size inb_S2048x1536_S512x1536_1536_0) (k0_pay210 (F := F) v1251 v1252 v1253) Finset.univ (View.stores_vmem h_S512x1536 (harg9.storeExact_slice rfl _ packedfp8e4m3_S2048x1536_S512x1536_1536_0) (fun _ => rfl)) (.inl rfl))
  pure ⟨⟩

/-- The loads of the part that holds the branch. -/
noncomputable def part24b (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole) :
    Prog (TpuEff nD τ sig (Elt F) Λ₀ .tc) (Σ' (arg0 : BitVec 32) (v15 : FVec F S384x256 .f32) (v17 : FVec F S384x256 .f32) (v19 : FVec F S384x256 .bf16), FVec F S384x256 .f32) := do
  let arg0 : BitVec 32 := BitVec.ofNat 32 (i 0).val
  let v3 : Vec F S384x256 .bf16 ← Prog.lift (.load arg1 (Rect.unit (s := S384x2048) ![0, 0] S384x256.size inb_S384x2048_S384x256_0_0).toLoadRect (View.loadsAt_vmem h_S384x256))
  let v5 : Vec F S1x1x256x256 .bf16 ← Prog.lift (.load arg8 (Rect.unit (s := S8x3x256x256) ![0, 0, 0, 0] S1x1x256x256.size inb_S8x3x256x256_S1x1x256x256_0_0_0_0).toLoadRect (View.loadsAt_vmem h_S1x1x256x256))
  let v8 : Vec F S1x1x256x256 .bf16 ← Prog.lift (.load arg8 (Rect.unit (s := S8x3x256x256) ![0, 1, 0, 0] S1x1x256x256.size inb_S8x3x256x256_S1x1x256x256_0_1_0_0).toLoadRect (View.loadsAt_vmem h_S1x1x256x256))
  let v12 : Vec F S1x1x256x256 .bf16 ← Prog.lift (.load arg8 (Rect.unit (s := S8x3x256x256) ![0, 2, 0, 0] S1x1x256x256.size inb_S8x3x256x256_S1x1x256x256_0_2_0_0).toLoadRect (View.loadsAt_vmem h_S1x1x256x256))
  let v18 : Vec F S384x256 .bf16 ← Prog.lift (.load arg1 (Rect.unit (s := S384x2048) ![0, 256] S384x256.size inb_S384x2048_S384x256_0_256).toLoadRect (View.loadsAt_vmem h_S384x256))
  let v20 : Vec F S1x1x256x256 .bf16 ← Prog.lift (.load arg8 (Rect.unit (s := S8x3x256x256) ![1, 0, 0, 0] S1x1x256x256.size inb_S8x3x256x256_S1x1x256x256_1_0_0_0).toLoadRect (View.loadsAt_vmem h_S1x1x256x256))
  let v23 : Vec F S1x1x256x256 .bf16 ← Prog.lift (.load arg8 (Rect.unit (s := S8x3x256x256) ![1, 1, 0, 0] S1x1x256x256.size inb_S8x3x256x256_S1x1x256x256_1_1_0_0).toLoadRect (View.loadsAt_vmem h_S1x1x256x256))
  pure ⟨arg0, k0_pay212 v3 v5 v8 v12, k0_pay213 v3, k0_pay214 v18, k0_pay215 v18 v20 v23⟩

/-- What every point does, after the branch. -/
noncomputable def mainProg (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole) :
    Prog (TpuEff nD τ sig (Elt F) Λ₀ .tc) PUnit := do
  let ⟨arg0, v15, v17, v19, v26⟩ : Σ' (arg0 : BitVec 32) (v15 : FVec F S384x256 .f32) (v17 : FVec F S384x256 .f32) (v19 : FVec F S384x256 .bf16), FVec F S384x256 .f32 ← part24b i arg1 harg1 arg2 harg2 arg3 harg3 arg4 harg4 arg5 harg5 arg6 harg6 arg7 harg7 arg8 harg8 arg9 harg9
  let ⟨v30, v46, v49, v51, v54⟩ : Σ' (v30 : FVec F S384x256 .f32) (v46 : FVec F S384x256 .f32) (v49 : FVec F S384x256 .f32) (v51 : FVec F S384x256 .bf16), FVec F S384x256 .f32 ← k0_part25 i arg1 harg1 arg2 harg2 arg3 harg3 arg4 harg4 arg5 harg5 arg6 harg6 arg7 harg7 arg8 harg8 arg9 harg9 v17 v19 v26
  let ⟨v62, v78, v81, v83, v84⟩ : Σ' (v62 : FVec F S384x256 .f32) (v78 : FVec F S384x256 .f32) (v81 : FVec F S384x256 .f32) (v83 : FVec F S384x256 .bf16), Vec F S1x1x256x256 .bf16 ← k0_part26 i arg1 harg1 arg2 harg2 arg3 harg3 arg4 harg4 arg5 harg5 arg6 harg6 arg7 harg7 arg8 harg8 arg9 harg9 v49 v51 v54
  let ⟨v94, v110, v113, v114⟩ : Σ' (v94 : FVec F S384x256 .f32) (v110 : FVec F S384x256 .f32) (v113 : FVec F S384x256 .f32), Vec F S384x256 .bf16 ← k0_part27 i arg1 harg1 arg2 harg2 arg3 harg3 arg4 harg4 arg5 harg5 arg6 harg6 arg7 harg7 arg8 harg8 arg9 harg9 v81 v83 v84
  let ⟨v129, v146, v147, v148, v149, v150, v151, v152, v153, v158, v159⟩ : Σ' (v129 : FVec F S384x256 .f32) (v146 : FVec F S384x256 .f32) (v147 : FVec F S384x256 .f32) (v148 : FVec F S384x256 .f32) (v149 : FVec F S384x256 .f32) (v150 : FVec F S384x256 .f32) (v151 : FVec F S384x256 .f32) (v152 : FVec F S384x256 .f32) (v153 : FVec F S384x256 .f32) (v158 : FVec F S384x256 .f32), FVec F S384x256 .f32 ← k0_part28 i arg1 harg1 arg2 harg2 arg3 harg3 arg4 harg4 arg5 harg5 arg6 harg6 arg7 harg7 arg8 harg8 arg9 harg9 v15 v30 v46 v62 v78 v94 v110 v113 v114
  let ⟨v186, v187, v198, v204⟩ : Σ' (v186 : FVec F S384x1 .f32) (v187 : FVec F S384x1 .f32) (v198 : FVec F S384x256 .fp8e4m3), FVec F S384x256 .f32 ← k0_part29 i arg1 harg1 arg2 harg2 arg3 harg3 arg4 harg4 arg5 harg5 arg6 harg6 arg7 harg7 arg8 harg8 arg9 harg9 v129 v146 v147 v150 v151 v152 v153 v158 v159
  let ⟨v209, v220, v231, v242, v244, cst_149, cst_150⟩ : Σ' (v209 : FVec F S384x256 .fp8e4m3) (v220 : FVec F S384x256 .fp8e4m3) (v231 : FVec F S384x256 .fp8e4m3) (v242 : FVec F S384x256 .fp8e4m3) (v244 : FVec F S384x256 .f32) (cst_149 : F .f32), F .f32 ← k0_part30 i arg1 harg1 arg2 harg2 arg3 harg3 arg4 harg4 arg5 harg5 arg6 harg6 arg7 harg7 arg8 harg8 arg9 harg9 v148 v149 v150 v151 v187 v204
  let ⟨v253, v264, v275, v283, v284⟩ : Σ' (v253 : FVec F S384x256 .fp8e4m3) (v264 : FVec F S384x256 .fp8e4m3) (v275 : FVec F S384x256 .fp8e4m3) (v283 : FVec F S384x256 .f32), Vec F S256x256 .fp8e4m3 ← k0_part31 i arg1 harg1 arg2 harg2 arg3 harg3 arg4 harg4 arg5 harg5 arg6 harg6 arg7 harg7 arg8 harg8 arg9 harg9 arg0 v152 v153 v186 v187 v198 v244 cst_149 cst_150
  let ⟨v313, v315⟩ : Σ' (v313 : FVec F S384x256 .f32), FVec F S384x256 .f32 ← k0_part32 i arg1 harg1 arg2 harg2 arg3 harg3 arg4 harg4 arg5 harg5 arg6 harg6 arg7 harg7 arg8 harg8 arg9 harg9 v186 v198 v209 v220 v231 v242 v253 v264 v275 v283 v284
  let v346 : FVec F S384x256 .f32 ← k0_part33 i arg1 harg1 arg2 harg2 arg3 harg3 arg4 harg4 arg5 harg5 arg6 harg6 arg7 harg7 arg8 harg8 arg9 harg9 v186 v198 v209 v220 v231 v242 v253 v264 v275 v313 v315
  let ⟨v376, v377⟩ : Σ' (v376 : FVec F S384x256 .f32), Vec F S256x256 .fp8e4m3 ← k0_part34 i arg1 harg1 arg2 harg2 arg3 harg3 arg4 harg4 arg5 harg5 arg6 harg6 arg7 harg7 arg8 harg8 arg9 harg9 v186 v198 v209 v220 v231 v242 v253 v264 v275 v346
  let ⟨v406, v408⟩ : Σ' (v406 : FVec F S384x256 .f32), FVec F S384x256 .f32 ← k0_part35 i arg1 harg1 arg2 harg2 arg3 harg3 arg4 harg4 arg5 harg5 arg6 harg6 arg7 harg7 arg8 harg8 arg9 harg9 v186 v198 v209 v220 v231 v242 v253 v264 v275 v376 v377
  let v439 : FVec F S384x256 .f32 ← k0_part36 i arg1 harg1 arg2 harg2 arg3 harg3 arg4 harg4 arg5 harg5 arg6 harg6 arg7 harg7 arg8 harg8 arg9 harg9 v186 v198 v209 v220 v231 v242 v253 v264 v275 v406 v408
  let v440 : Vec F S256x256 .fp8e4m3 ← Prog.lift (.load arg9 (Rect.unit (s := S2048x1536) ![768, 1280] S256x256.size inb_S2048x1536_S256x256_768_1280).toLoadRect (View.loadsAt_vmem h_S256x256))
  let v443 : Vec F S256x256 .fp8e4m3 ← Prog.lift (.load arg9 (Rect.unit (s := S2048x1536) ![1024, 1280] S256x256.size inb_S2048x1536_S256x256_1024_1280).toLoadRect (View.loadsAt_vmem h_S256x256))
  let v446 : Vec F S256x256 .fp8e4m3 ← Prog.lift (.load arg9 (Rect.unit (s := S2048x1536) ![1280, 1280] S256x256.size inb_S2048x1536_S256x256_1280_1280).toLoadRect (View.loadsAt_vmem h_S256x256))
  let v449 : Vec F S256x256 .fp8e4m3 ← Prog.lift (.load arg9 (Rect.unit (s := S2048x1536) ![1536, 1280] S256x256.size inb_S2048x1536_S256x256_1536_1280).toLoadRect (View.loadsAt_vmem h_S256x256))
  let v452 : Vec F S256x256 .fp8e4m3 ← Prog.lift (.load arg9 (Rect.unit (s := S2048x1536) ![1792, 1280] S256x256.size inb_S2048x1536_S256x256_1792_1280).toLoadRect (View.loadsAt_vmem h_S256x256))
  let v457 : Elt F .f32 ← smemLoad arg4 (Rect.unit (s := S1) ![0] S1.size inb_S1_S1_0) numel1_S1 rfl
  let v461 : Vec F S384x256 .bf16 ← Prog.lift (.load arg5 (Rect.unit (s := S384x1536) ![0, 1280] S384x256.size inb_S384x1536_S384x256_0_1280).toLoadRect (View.loadsAt_vmem h_S384x256))
  Prog.lift (.store arg5 (Rect.unit (s := S384x1536) ![0, 1280] S384x256.size inb_S384x1536_S384x256_0_1280) (k0_pay1 v186 v231 v242 v253 v264 v275 v439 v440 v443 v446 v449 v452 v457) Finset.univ (View.stores_vmem h_S384x256 (harg5.storeExact_slice rfl _ packedbf16_S384x1536_S384x256_0_1280) (fun _ => rfl)) (.inl rfl))
  pure ⟨⟩

set_option maxRecDepth 65536 in
theorem body_false (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole) (h : ¬ cond i) : cc0__body (F := F) i arg1 harg1 arg2 harg2 arg3 harg3 arg4 harg4 arg5 harg5 arg6 harg6 arg7 harg7 arg8 harg8 arg9 harg9 = mainProg i arg1 harg1 arg2 harg2 arg3 harg3 arg4 harg4 arg5 harg5 arg6 harg6 arg7 harg7 arg8 harg8 arg9 harg9 := by
  rw [cc0__body_eq_skeleton]
  unfold cc0__body_skel mainProg
  rw [k0_part24_eq_skeleton]
  unfold k0_part24_skel part24b
  simp only [dif_neg h]

set_option maxRecDepth 65536 in
theorem body_true (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole) (h : cond i) : cc0__body (F := F) i arg1 harg1 arg2 harg2 arg3 harg3 arg4 harg4 arg5 harg5 arg6 harg6 arg7 harg7 arg8 harg8 arg9 harg9 = (bld i arg1 harg1 arg2 harg2 arg3 harg3 arg4 harg4 arg5 harg5 arg6 harg6 arg7 harg7 arg8 harg8 arg9 harg9 >>= fun _ => mainProg i arg1 harg1 arg2 harg2 arg3 harg3 arg4 harg4 arg5 harg5 arg6 harg6 arg7 harg7 arg8 harg8 arg9 harg9) := by
  rw [cc0__body_eq_skeleton]
  unfold cc0__body_skel mainProg
  rw [k0_part24_eq_skeleton]
  unfold k0_part24_skel part24b bld
  simp only [dif_pos h, bind_assoc]
  rfl

end Cert.KernelIdeal.Own

end
-- ==== Proof.RunBld.lean ====
/- The run of what the first point builds. -/
module

public import proofs.«01_k».proof.Proof.Body

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the first point's stores leave in the two scratch arrays, as pieces (last first), with the triple that leaves them. -/
noncomputable def runBld (c : Dev nD) (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole)
    (x1 : Vec F S1x2048 .f32) (x2 : Vec F S512x1536 .i8) :
    Σ' (LS0 : List (View.Piece (Elt F) S8x3x256x256 .bf16)), { LS1 : List (View.Piece (Elt F) S2048x1536 .fp8e4m3) //
      ∀ (E : Set ℕ) (K : PUnit → sProp 𝕄),
        iprop(owns (c : Thread nD τ) arg2 fullShare x1 ∗ owns (c : Thread nD τ) arg3 fullShare x2 ∗ (∃ d, owns (c : Thread nD τ) arg8 fullShare d) ∗ (∃ d, owns (c : Thread nD τ) arg9 fullShare d)
            ∗ (iprop(owns (c : Thread nD τ) arg2 fullShare x1 ∗ owns (c : Thread nD τ) arg3 fullShare x2 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (bld i arg1 harg1 arg2 harg2 arg3 harg3 arg4 harg4 arg5 harg5 arg6 harg6 arg7 harg7 arg8 harg8 arg9 harg9) K } := by
  refine ⟨?_, ?_, fun E K => ?run⟩
  case run =>
    unfold bld
    simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%ds0, %fs0, -, HS0⟩, ⟨%ds1, %fs1, -, HS1⟩, Hk⟩
    obtain rfl := harg2.eq_unread hf1; obtain rfl := harg3.eq_unread hf2
    sl_exec
    sl_step
    iapply Hk
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Own

end
-- ==== Proof.RunMain.lean ====
/- The run of what every point does. -/
module

public import proofs.«01_k».proof.Proof.Body

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What a point's stores leave in the three results' buffers, as pieces (last first), with the triple that leaves them: the scratch arrays
    at `xs0` and `xs1`, the scales' buffer, of which a point writes one row, at `x6`. -/
noncomputable def runMain (c : Dev nD) (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole)
    (x0 : Vec F S384x2048 .bf16) (x3 : Vec F S1 .f32) (xs0 : Vec F S8x3x256x256 .bf16) (xs1 : Vec F S2048x1536 .fp8e4m3) :
    Σ' (L4 : List (View.Piece (Elt F) S384x1536 .bf16)), Σ' (L5 : List (View.Piece (Elt F) S384x2048 .i8)), { L6 : List (View.Piece (Elt F) S5x384 .f32) //
      ∀ (x6 : Vec F S5x384 .f32) (E : Set ℕ) (K : PUnit → sProp 𝕄),
        iprop(owns (c : Thread nD τ) arg1 fullShare x0 ∗ owns (c : Thread nD τ) arg4 fullShare x3 ∗ (∃ d, owns (c : Thread nD τ) arg5 fullShare d) ∗ (∃ d, owns (c : Thread nD τ) arg6 fullShare d) ∗ owns (c : Thread nD τ) arg7 fullShare x6 ∗ owns (c : Thread nD τ) arg8 fullShare xs0 ∗ owns (c : Thread nD τ) arg9 fullShare xs1
            ∗ (iprop(owns (c : Thread nD τ) arg1 fullShare x0 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, ⌜arg7.view.read (Elt F) f = x6⌝ ∗ arg7.view.loc (c : Thread nD τ) ↦[arg7.view.set]{fullShare} arg7.view.writes (Elt F) f L6) ∗ owns (c : Thread nD τ) arg8 fullShare xs0 ∗ owns (c : Thread nD τ) arg9 fullShare xs1) -∗ K ⟨⟩))
          ⊢ wp frame (wpE (defs₀ (F := F)) Variants.none c none) E (mainProg i arg1 harg1 arg2 harg2 arg3 harg3 arg4 harg4 arg5 harg5 arg6 harg6 arg7 harg7 arg8 harg8 arg9 harg9) K } := by
  refine ⟨?_, ?_, ?_, fun x6 E K => ?run⟩
  case run =>
    unfold mainProg part24b
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f3, %hf3, H3⟩, ⟨%d4, %f4, -, H4⟩, ⟨%d5, %f5, -, H5⟩, ⟨%f6, %hf6, H6⟩, ⟨%fs0, %hfs0, HS0⟩, ⟨%fs1, %hfs1, HS1⟩, Hk⟩
    obtain rfl := harg1.eq_unread hf0; obtain rfl := harg4.eq_unread hf3; obtain rfl := harg8.eq_unread hfs0; obtain rfl := harg9.eq_unread hfs1
    sl_exec
    sl_step
    iapply Hk
    isplitl [H0]
    · iexists _; isplitr; · ipureintro; exact harg1.read_unread _
      iexact H0
    isplitl [H3]
    · iexists _; isplitr; · ipureintro; exact harg4.read_unread _
      iexact H3
    isplitl [H4]; · iexists _; iexact H4
    isplitl [H5]; · iexists _; iexact H5
    isplitl [H6]
    · iexists f6; isplitr; · ipureintro; exact hf6
      iexact H6
    isplitl [HS0]
    · iexists _; isplitr; · ipureintro; exact harg8.read_unread _
      iexact HS0
    iexists _; isplitr; · ipureintro; exact harg9.read_unread _
    iexact HS1

end Cert.KernelIdeal.Own

end
-- ==== Proof.Run.lean ====
/- The run of the pipelined kernel: the scratch as the first point leaves it, the results of a point as its stores leave them (the scales one
   row a point, held to a predicate), the body obligation and the launch. -/
module

public import proofs.«01_k».proof.Proof.RunBld
public import proofs.«01_k».proof.Proof.RunMain
public import Idealize.ShloMosaic.Lib.Pipeline.DatRel
public import Idealize.ShloMosaic.Lib.Pipeline.ArrRel
public import Idealize.ShloMosaic.Lib.WritesUnit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VO0_4 : View sig .tc .vmem S384x1536 .bf16 := (Memref.whole cc0_stg4_0 : Memref sig .tc .vmem S384x1536 .bf16).view
abbrev VO0_5 : View sig .tc .vmem S384x2048 .i8 := (Memref.whole cc0_stg5_0 : Memref sig .tc .vmem S384x2048 .i8).view
abbrev VO0_6 : View sig .tc .vmem S5x384 .f32 := (Memref.whole cc0_stg6_0 : Memref sig .tc .vmem S5x384 .f32).view
/- Each window's current staging memref at a point, spelled as the pipeline passes it, and its wholeness. -/
abbrev ms0_0 (t : Fin cfg0.N) : Memref sig .tc .vmem S384x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S384x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x2048 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5x384 .f32 := win0_6.stage (cfg0.slots t 6)
abbrev hs0_6 (t : Fin cfg0.N) : (ms0_6 t).IsWhole := hstage0_6 ((cfg0.slots t 6).cast nbuf0_6)
abbrev scM0_0 : Memref sig .tc .vmem S8x3x256x256 .bf16 := Memref.whole cc0_scratch0
abbrev scM0_1 : Memref sig .tc .vmem S2048x1536 .fp8e4m3 := Memref.whole cc0_scratch1
abbrev VS0_0 : View sig .tc .vmem S8x3x256x256 .bf16 := scM0_0.view
abbrev VS0_1 : View sig .tc .vmem S2048x1536 .fp8e4m3 := scM0_1.view

/-- The launch's invariant with the two scratch arrays owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The first point. -/
abbrev t0 : Fin cfg0.N := ⟨0, by rw [show cfg0.N = 5 from N_0]; decide⟩

/-- The building half run at point `t`, and the other half. -/
abbrev bldAt (c : Dev nD) (t : Fin cfg0.N) (x1 : Vec F S1x2048 .f32) (x2 : Vec F S512x1536 .i8) :=
  runBld c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) x1 x2
abbrev mainAt (c : Dev nD) (t : Fin cfg0.N) (x0 : Vec F S384x2048 .bf16) (x3 : Vec F S1 .f32) (xs0 : Vec F S8x3x256x256 .bf16) (xs1 : Vec F S2048x1536 .fp8e4m3) :=
  runMain c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) x0 x3 xs0 xs1

theorem cover_gh (c : Dev nD) (t : Fin cfg0.N) (x1 : Vec F S1x2048 .f32) (x2 : Vec F S512x1536 .i8) (y : S8x3x256x256.Idx) :
    ∃ pc ∈ (bldAt c t x1 x2).1, y ∈ pc.1.set :=
  View.cover_of_tiledL (bldAt c t x1 x2).1 S1x1x128x128.size (by sl_kernel_rfl) y
theorem cover_w (c : Dev nD) (t : Fin cfg0.N) (x1 : Vec F S1x2048 .f32) (x2 : Vec F S512x1536 .i8) (y : S2048x1536.Idx) :
    ∃ pc ∈ (bldAt c t x1 x2).2.1, y ∈ pc.1.set :=
  View.cover_of_tiledL (bldAt c t x1 x2).2.1 S512x1536.size (by sl_kernel_rfl) y
theorem cover_y (c : Dev nD) (t : Fin cfg0.N) (x0 : Vec F S384x2048 .bf16) (x3 : Vec F S1 .f32) (xs0 : Vec F S8x3x256x256 .bf16) (xs1 : Vec F S2048x1536 .fp8e4m3) (y : S384x1536.Idx) :
    ∃ pc ∈ (mainAt c t x0 x3 xs0 xs1).1, y ∈ pc.1.set :=
  View.cover_of_tiledL (mainAt c t x0 x3 xs0 xs1).1 S384x256.size (by sl_kernel_rfl) y
theorem cover_c (c : Dev nD) (t : Fin cfg0.N) (x0 : Vec F S384x2048 .bf16) (x3 : Vec F S1 .f32) (xs0 : Vec F S8x3x256x256 .bf16) (xs1 : Vec F S2048x1536 .fp8e4m3) (y : S384x2048.Idx) :
    ∃ pc ∈ (mainAt c t x0 x3 xs0 xs1).2.1, y ∈ pc.1.set :=
  View.cover_of_tiledL (mainAt c t x0 x3 xs0 xs1).2.1 S384x256.size (by sl_kernel_rfl) y

/-- What the first point leaves in the scratch arrays. -/
def ghOut (c : Dev nD) : Vec F S8x3x256x256 .bf16 := VS0_0.read (Elt F) (VS0_0.writes (Elt F) VS0_0.junk (bldAt c t0 (iblk m c 1 t0) (iblk m c 2 t0)).1)
def wOut (c : Dev nD) : Vec F S2048x1536 .fp8e4m3 := VS0_1.read (Elt F) (VS0_1.writes (Elt F) VS0_1.junk (bldAt c t0 (iblk m c 1 t0) (iblk m c 2 t0)).2.1)
/-- The run of a point's other half on what the point finds. -/
abbrev mainRun (c : Dev nD) (t : Fin cfg0.N) := mainAt c t (iblk m c 0 t) (iblk m c 3 t) (ghOut m c) (wOut m c)
/-- What a point leaves in the buffers of the first two results. -/
def yOut (c : Dev nD) (t : Fin cfg0.N) : Vec F S384x1536 .bf16 := VO0_4.read (Elt F) (VO0_4.writes (Elt F) VO0_4.junk (mainRun m c t).1)
def cOut (c : Dev nD) (t : Fin cfg0.N) : Vec F S384x2048 .i8 := VO0_5.read (Elt F) (VO0_5.writes (Elt F) VO0_5.junk (mainRun m c t).2.1)
/-- What a point leaves in the scales' buffer, of which only its own row is its own. -/
def sOut (c : Dev nD) (t : Fin cfg0.N) : Vec F S5x384 .f32 := VO0_6.read (Elt F) (VO0_6.writes (Elt F) VO0_6.junk (mainRun m c t).2.2.1)

/-- The row a point stores: its own. -/
theorem off1_eq : ∀ t : Fin cfg0.N, k0_off1 (grid0.coords t) = ![t.val, 0] :=
  (by decide +kernel : ∀ t : Fin grid0.N, k0_off1 (grid0.coords t) = ![t.val, 0])

theorem row_self (c : Dev nD) (t : Fin cfg0.N) (v : View sig .tc .vmem S5x384 .f32) (f : v.ty.Contents (Elt F)) (y : S5x384.Idx) (h : (y 0).val = t.val) :
    v.read (Elt F) (v.writes (Elt F) f (mainRun m c t).2.2.1) y = sOut m c t y := by
  let x : S1x384.Idx := fun a => match a with | ⟨0, _⟩ => ⟨0, Nat.zero_lt_one⟩ | ⟨1, _⟩ => y 1
  have hx : ∀ a, (y a).val = (![t.val, 0] : Fin 2 → ℕ) a + (x a).val := fun a => match a with
    | ⟨0, _⟩ => h.trans (Nat.add_zero _).symm
    | ⟨1, _⟩ => (Nat.zero_add _).symm
  unfold sOut
  refine (View.read_writes_cons_unit_of_mem v f (k0_off1_inb (grid0.coords t)) _ [] y x (off1_eq t) hx).trans ?_
  exact (View.read_writes_cons_unit_of_mem (Val := Elt F) VO0_6 (VO0_6.junk (Val := Elt F)) (k0_off1_inb (grid0.coords t)) _ [] y x (off1_eq t) hx).symm

theorem row_other (c : Dev nD) (t : Fin cfg0.N) (v : View sig .tc .vmem S5x384 .f32) (f : v.ty.Contents (Elt F)) (y : S5x384.Idx) (h : (y 0).val < t.val) :
    v.read (Elt F) (v.writes (Elt F) f (mainRun m c t).2.2.1) y = v.read (Elt F) f y :=
  View.read_writes_cons_unit_of_not_mem v f (k0_off1_inb (grid0.coords t)) _ [] y (off1_eq t) 0 (.inl h)

/-- The windows held to a predicate: the three results. -/
def fgt : Fin cfg0.W → Bool := fun w => match w with
  | ⟨4, _⟩ => true | ⟨5, _⟩ => true | ⟨6, _⟩ => true | _ => false

/-- What a point leaves in a result's buffer: of the scales, the rows of the points so far. -/
def Rl (c : Dev nD) (w : Fin cfg0.W) (t : Fin cfg0.N) : ((cfg0.win w).block.Idx → Elt F (cfg0.win w).elt) → Prop :=
  match w with
  | ⟨4, _⟩ => fun (X : Vec F S384x1536 .bf16) => X = yOut m c t
  | ⟨5, _⟩ => fun (X : Vec F S384x2048 .i8) => X = cOut m c t
  | ⟨6, _⟩ => fun (X : Vec F S5x384 .f32) => ∀ (s : Fin cfg0.N) (y : S5x384.Idx), s.val ≤ t.val → (y 0).val = s.val → X y = sOut m c s y
  | _ => fun _ => True

/-- The invariant: the scratch at anything before the first point, at what that point built after it. -/
def PhiS (c : Dev nD) (n : ℕ) : sProp 𝕄 :=
  if n = 0 then Pipeline.ΦA spec0 c
  else iprop(iprop(owns (c : Thread nD τ) scM0_0 fullShare (ghOut m c) ∗ owns (c : Thread nD τ) scM0_1 fullShare (wOut m c)) ∗ (∃ r, prngReg c r))

theorem PhiS_zero (c : Dev nD) (n : ℕ) (hz : n = 0) : PhiS m c n = Pipeline.ΦA spec0 c := if_pos hz
theorem PhiS_pos (c : Dev nD) (n : ℕ) (hz : n ≠ 0) :
    PhiS m c n = iprop(iprop(owns (c : Thread nD τ) scM0_0 fullShare (ghOut m c) ∗ owns (c : Thread nD τ) scM0_1 fullShare (wOut m c)) ∗ (∃ r, prngReg c r)) := if_neg hz

/-- The proof data: each input's buffer at its block, the results' given by `Rl`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yOut m c t
    | ⟨5, _⟩ => cOut m c t
    | ⟨6, _⟩ => sOut m c t
  Φ t := PhiS m c t.val
  q _ := fullShare
  owed _ := 0

theorem A_eq (c : Dev nD) (w : Fin cfg0.W) : (dats m c).A w = V m c (Pipeline.arrRef spec0 w) := by
  dsimp only [dats]
theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem before0_0 (c : Dev nD) (t : Fin cfg0.N) (d) : (dats m c).before 0 t d = iblk m c 0 t := before0_0_of m (dats m c) (A_eq m c 0) (after0_0 m c) t d
theorem before0_1 (c : Dev nD) (t : Fin cfg0.N) (d) : (dats m c).before 1 t d = iblk m c 1 t := before0_1_of m (dats m c) (A_eq m c 1) (after0_1 m c) t d
theorem before0_2 (c : Dev nD) (t : Fin cfg0.N) (d) : (dats m c).before 2 t d = iblk m c 2 t := before0_2_of m (dats m c) (A_eq m c 2) (after0_2 m c) t d
theorem before0_3 (c : Dev nD) (t : Fin cfg0.N) (d) : (dats m c).before 3 t d = iblk m c 3 t := before0_3_of m (dats m c) (A_eq m c 3) (after0_3 m c) t d

abbrev rdat (c : Dev nD) := (dats m c).toRRel fgt (Rl m c)

/-- What a point finds in the scales' buffer: after the first point, the rows of the points before it. -/
theorem finds6 (c : Dev nD) (t : Fin cfg0.N) (Y : Vec F S5x384 .f32) (h : (rdat m c).Finds 6 t Y)
    (s : Fin cfg0.N) (y : S5x384.Idx) (hs : s.val < t.val) (hy : (y 0).val = s.val) : Y y = sOut m c s y := by
  have hN : t.val < 5 := lt_of_lt_of_eq t.isLt (show cfg0.N = 5 from N_0)
  have hf : (cfg0.win 6).fetch t = false := Window.fetch_out _ rfl t
  rcases ((rdat m c).finds_of_pos hf (by omega) Y).mp h with h | h
  · exact absurd ((flush0_6 _).mp h) (by dsimp only; omega)
  · exact (dats m c).toRRel_leaves (fgt := fgt) (Rl := Rl m c) (w := 6) rfl h s y (by dsimp only; omega) hy

/-- What the body is called with at a point, the windows one by one, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y))

/-- and what it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ (∃ X, ⌜Rl m c 4 t X⌝ ∗ owns (c : Thread nD τ) (ms0_4 t) fullShare X)
    ∗ (∃ X, ⌜Rl m c 5 t X⌝ ∗ owns (c : Thread nD τ) (ms0_5 t) fullShare X)
    ∗ (∃ X, ⌜Rl m c 6 t X⌝ ∗ owns (c : Thread nD τ) (ms0_6 t) fullShare X))

set_option maxHeartbeats 1600000 in
/-- The half that every point runs, from the scratch as the first point builds it. -/
theorem sound_main (c : Dev nD) (t : Fin cfg0.N) :
    iprop((iprop(owns (c : Thread nD τ) scM0_0 fullShare (ghOut m c) ∗ owns (c : Thread nD τ) scM0_1 fullShare (wOut m c)) ∗ (∃ r, prngReg c r))
      ∗ (dats m c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ (∃ Y, owns (c : Thread nD τ) (ms0_4 t) fullShare Y)
      ∗ (∃ Y, owns (c : Thread nD τ) (ms0_5 t) fullShare Y)
      ∗ (∃ Y, ⌜(rdat m c).Finds 6 t Y⌝ ∗ owns (c : Thread nD τ) (ms0_6 t) fullShare Y))
    ⊢ wp frame (wpE (defs₀ (F := F)) Variants.none c none) Set.univ (mainProg (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)) (fun _ => bodyPost m c t) := by
  unfold bodyPost
  rw [show (dats m c).owesAt () t.succ = (dats m c).owesAt () t.castSucc from rfl,
    after0_0, after0_1, after0_2, after0_3]
  rw [show (dats m c).Φ t.succ = PhiS m c (t.val + 1) from rfl, PhiS_pos m c _ (Nat.succ_ne_zero _)]
  iintro ⟨⟨⟨HS0, HS1⟩, Hg⟩, Ho, H0, H1, H2, H3, ⟨%d4, H4⟩, ⟨%d5, H5⟩, ⟨%d6, %hd6, H6⟩⟩
  iapply ((mainRun m c t).2.2.2 d6 Set.univ _)
  isplitl [H0]; · iexact H0
  isplitl [H3]; · iexact H3
  isplitl [H4]; · iexists _; iexact H4
  isplitl [H5]; · iexists _; iexact H5
  isplitl [H6]; · iexact H6
  isplitl [HS0]; · iexact HS0
  isplitl [HS1]; · iexact HS1
  iintro ⟨H0, H3, ⟨%e4, H4⟩, ⟨%e5, H5⟩, ⟨%e6, %he6, H6⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]
  · iexists (yOut m c t); isplitr
    · ipureintro; exact rfl
    unfold owns; iexists _; isplitr
    swap; · iexact H4
    ipureintro; exact View.read_writes_of_cover _ _ _ _ _ (cover_y c t _ _ _ _)
  isplitl [H5]
  · iexists (cOut m c t); isplitr
    · ipureintro; exact rfl
    unfold owns; iexists _; isplitr
    swap; · iexact H5
    ipureintro; exact View.read_writes_of_cover _ _ _ _ _ (cover_c c t _ _ _ _)
  iexists ((ms0_6 t).view.read (Elt F) ((ms0_6 t).view.writes (Elt F) e6 (mainRun m c t).2.2.1)); isplitr
  · ipureintro
    intro s y hs hy
    rcases Nat.lt_or_eq_of_le hs with h | h
    · rw [row_other m c t _ _ y (by omega), he6]
      exact finds6 m c t d6 hd6 s y h hy
    · obtain rfl : s = t := Fin.ext h
      exact row_self m c s _ _ y hy
  unfold owns; iexists _; isplitr
  swap; · iexact H6
  ipureintro; rfl

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3]
  rw [show (dats m c).Φ t.castSucc = PhiS m c t.val from rfl]
  by_cases hz : t.val = 0
  · obtain rfl : t = t0 := Fin.ext hz
    rw [PhiS_zero m c _ hz, PhiA0_eq, body_true _ _ _ _ _ _ _ _ _ _ _ _ _ _ _ _ _ _ _ ((hcond _).mpr hz), wp_bind]
    iintro ⟨⟨⟨HS0, HS1⟩, Hg⟩, Ho, ⟨%d0, H0⟩, ⟨%d1, H1⟩, ⟨%d2, H2⟩, ⟨%d3, H3⟩, ⟨%d4, -, H4⟩, ⟨%d5, -, H5⟩, H6⟩
    iapply ((bldAt c t0 (iblk m c 1 t0) (iblk m c 2 t0)).2.2 Set.univ _)
    isplitl [H1]; · iexact H1
    isplitl [H2]; · iexact H2
    isplitl [HS0]; · iexact HS0
    isplitl [HS1]; · iexact HS1
    iintro ⟨H1, H2, ⟨%es0, HS0⟩, ⟨%es1, HS1⟩⟩
    iapply (sound_main m c t0)
    isplitl [HS0 HS1 Hg]
    · isplitl [HS0 HS1]
      · isplitl [HS0]
        · unfold owns; iexists _; isplitr
          swap; · iexact HS0
          ipureintro; exact View.read_writes_of_cover _ _ _ _ _ (cover_gh c t0 _ _)
        unfold owns; iexists _; isplitr
        swap; · iexact HS1
        ipureintro; exact View.read_writes_of_cover _ _ _ _ _ (cover_w c t0 _ _)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexact H6
  · rw [PhiS_pos m c _ hz, body_false _ _ _ _ _ _ _ _ _ _ _ _ _ _ _ _ _ _ _ (fun h => hz ((hcond _).mp h))]
    iintro ⟨HP, Ho, ⟨%d0, H0⟩, ⟨%d1, H1⟩, ⟨%d2, H2⟩, ⟨%d3, H3⟩, ⟨%d4, -, H4⟩, ⟨%d5, -, H5⟩, H6⟩
    iapply (sound_main m c t)
    isplitl [HP]; · iexact HP
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats (F := F) m c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = PhiS m c 0 from rfl, PhiS_zero m c 0 rfl]

theorem hout (c : Dev nD) : (rdat m c).Φ (Fin.last cfg0.N) ⊢ Pipeline.ΦA spec0 c := by
  rw [show (rdat m c).Φ (Fin.last cfg0.N) = PhiS m c cfg0.N from rfl, PhiS_pos m c _ (by rw [show cfg0.N = 5 from N_0]; decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch, with every semaphore counter at zero at the end. -/
theorem run_main : θ_run defs (onTc (τ := τ) (main (F := F))) (s₀ m ρ) (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m c).share_full fun _ => rfl)
    (howed := fun _ _ => rfl) (V := V m) (hmain := hmain m Variants.none) (hA := A_eq m) (hin := hin m) (hout := hout m)

end Cert.KernelIdeal.Own

end
-- ==== Proof.Spec.lean ====
/- What a point computes, in one form for all its blocks: the eight column blocks of the rows, the butterfly over the blocks, the quantiser and
   the product with the weights. -/
module

public import proofs.«01_k».proof.Proof.Run
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The three levels of the butterfly over the eight blocks. -/
def stage1 (u : Fin 8 → FVec F S384x256 .f32) : Fin 8 → FVec F S384x256 .f32 :=
  ![addf (u 0) (u 4), addf (u 1) (u 5), addf (u 2) (u 6), addf (u 3) (u 7), subf (u 0) (u 4), subf (u 1) (u 5), subf (u 2) (u 6), subf (u 3) (u 7)]
def stage2 (u : Fin 8 → FVec F S384x256 .f32) : Fin 8 → FVec F S384x256 .f32 :=
  ![addf (u 0) (u 2), addf (u 1) (u 3), subf (u 0) (u 2), subf (u 1) (u 3), addf (u 4) (u 6), addf (u 5) (u 7), subf (u 4) (u 6), subf (u 5) (u 7)]
def stage3 (u : Fin 8 → FVec F S384x256 .f32) : Fin 8 → FVec F S384x256 .f32 :=
  ![addf (u 0) (u 1), subf (u 0) (u 1), addf (u 2) (u 3), subf (u 2) (u 3), addf (u 4) (u 5), subf (u 4) (u 5), addf (u 6) (u 7), subf (u 6) (u 7)]

/-- The transformed blocks. -/
def blocks (xs : Fin 8 → Vec F S384x256 .bf16) (gs : Fin 8 → Fin 3 → Vec F S1x1x256x256 .bf16) : Fin 8 → FVec F S384x256 .f32 :=
  stage3 (stage2 (stage1 (fun i => k0_pay212 (xs i) (gs i 0) (gs i 1) (gs i 2))))

/-- The squares of a block, -/
def sqr (x : Vec F S384x256 .bf16) : FVec F S384x256 .f32 := k0_pay213 x
/-- and of all the blocks, lane by lane. -/
def sqrs (xs : Fin 8 → Vec F S384x256 .bf16) : FVec F S384x256 .f32 :=
  addf (addf (addf (addf (addf (addf (addf (sqr (xs 0)) (sqr (xs 1))) (sqr (xs 2))) (sqr (xs 3))) (sqr (xs 4))) (sqr (xs 5))) (sqr (xs 6))) (sqr (xs 7))

/-- The scale of every row. -/
def scl (q : FVec F S384x256 .f32) (f : Fin 8 → FVec F S384x256 .f32) : FVec F S384x1 .f32 :=
  k0_pay261 q (f 4) (f 5) (f 6) (f 7) (maximumf (maximumf (absf (f 0)) (absf (f 1))) (absf (f 2))) (absf (f 3))
/-- What a row is multiplied with before it is rounded. -/
def inv (q : FVec F S384x256 .f32) (f : Fin 8 → FVec F S384x256 .f32) : FVec F S384x1 .f32 := divf (k0_pay260 q) (scl q f)

/-- A column block of the product. -/
def prod (s : FVec F S384x1 .f32) (q : Fin 8 → FVec F S384x256 .fp8e4m3) (w : Fin 8 → Vec F S256x256 .fp8e4m3) (ws : Elt F .f32) : FVec F S384x256 .bf16 :=
  k0_pay291 s (q 1) (q 2) (q 3) (q 4) (q 5) (q 6) (q 7) (k0_pay290 (q 0) (w 0)) (w 1) (w 2) (w 3) (w 4) (w 5) (w 6) (w 7) ws

theorem inbx (k : Fin 8) : ∀ a, (![0, 256 * k.val] : Fin 2 → ℕ) a + S384x256.size a ≤ S384x2048.size a := by
  have := k.isLt
  intro a; match a with
  | ⟨0, _⟩ => exact Nat.le_refl 384
  | ⟨1, _⟩ => change 256 * k.val + 256 ≤ 2048; omega
theorem inby (n : Fin 6) : ∀ a, (![0, 256 * n.val] : Fin 2 → ℕ) a + S384x256.size a ≤ S384x1536.size a := by
  have := n.isLt
  intro a; match a with
  | ⟨0, _⟩ => exact Nat.le_refl 384
  | ⟨1, _⟩ => change 256 * n.val + 256 ≤ 1536; omega
theorem inbg (i : Fin 8) (p : Fin 3) : ∀ a, (![i.val, p.val, 0, 0] : Fin 4 → ℕ) a + S1x1x256x256.size a ≤ S8x3x256x256.size a := by
  have := i.isLt; have := p.isLt
  intro a; match a with
  | ⟨0, _⟩ => change i.val + 1 ≤ 8; omega
  | ⟨1, _⟩ => change p.val + 1 ≤ 3; omega
  | ⟨2, _⟩ => exact Nat.le_refl 256
  | ⟨3, _⟩ => exact Nat.le_refl 256
theorem inbw (k : Fin 8) (n : Fin 6) : ∀ a, (![256 * k.val, 256 * n.val] : Fin 2 → ℕ) a + S256x256.size a ≤ S2048x1536.size a := by
  have := k.isLt; have := n.isLt
  intro a; match a with
  | ⟨0, _⟩ => change 256 * k.val + 256 ≤ 2048; omega
  | ⟨1, _⟩ => change 256 * n.val + 256 ≤ 1536; omega

section
variable (c : Dev nD) (t : Fin cfg0.N) (x0 : Vec F S384x2048 .bf16) (x3 : Vec F S1 .f32) (xs0 : Vec F S8x3x256x256 .bf16) (xs1 : Vec F S2048x1536 .fp8e4m3)

/-- What a point loads: a column block of its rows, a sign block of the scratch, a block of the weights and the weights' scale. -/
def ldx (k : Fin 8) : Vec F S384x256 .bf16 := View.ld x0 (Rect.unit (s := S384x2048) ![0, 256 * k.val] S384x256.size (inbx k))
def ldg (i : Fin 8) (p : Fin 3) : Vec F S1x1x256x256 .bf16 := View.ld xs0 (Rect.unit (s := S8x3x256x256) ![i.val, p.val, 0, 0] S1x1x256x256.size (inbg i p))
def ldw (n : Fin 6) (k : Fin 8) : Vec F S256x256 .fp8e4m3 := View.ld xs1 (Rect.unit (s := S2048x1536) ![256 * k.val, 256 * n.val] S256x256.size (inbw k n))

def rdx (k : Fin 8) : Vec F S384x256 .bf16 := View.readAt (Elt F) (ms0_0 t).view (Rect.unit (s := S384x2048) ![0, 256 * k.val] S384x256.size (inbx k)).toLoadRect ((hs0_0 t).unread x0)
def rdg (i : Fin 8) (p : Fin 3) : Vec F S1x1x256x256 .bf16 := View.readAt (Elt F) scM0_0.view (Rect.unit (s := S8x3x256x256) ![i.val, p.val, 0, 0] S1x1x256x256.size (inbg i p)).toLoadRect ((Memref.isWhole_whole cc0_scratch0).unread xs0)
def rdw (n : Fin 6) (k : Fin 8) : Vec F S256x256 .fp8e4m3 := View.readAt (Elt F) scM0_1.view (Rect.unit (s := S2048x1536) ![256 * k.val, 256 * n.val] S256x256.size (inbw k n)).toLoadRect ((Memref.isWhole_whole cc0_scratch1).unread xs1)
def rds : Elt F .f32 := View.readAt (Elt F) (ms0_3 t).view (Rect.unit (s := S1) ![0] S1.size inb_S1_S1_0).toLoadRect ((hs0_3 t).unread x3) (Shape.Idx.first Nat.one_pos)

theorem rdx_eq (k : Fin 8) : rdx t x0 k = ldx x0 k := by
  unfold rdx ldx; simp only [View.readAt_eq_ld, (hs0_0 t).read_unread]
theorem rdg_eq (i : Fin 8) (p : Fin 3) : rdg xs0 i p = ldg xs0 i p := by
  unfold rdg ldg; rw [View.readAt_eq_ld, (Memref.isWhole_whole cc0_scratch0).read_unread]
theorem rdw_eq (n : Fin 6) (k : Fin 8) : rdw xs1 n k = ldw xs1 n k := by
  unfold rdw ldw; rw [View.readAt_eq_ld, (Memref.isWhole_whole cc0_scratch1).read_unread]

/-- The pieces a point stores. -/
theorem c_pieces : (mainAt c t x0 x3 xs0 xs1).2.1
    = ([7, 6, 5, 4, 3, 2, 1, 0] : List (Fin 8)).map (fun k => ⟨Rect.unit (s := S384x2048) ![0, 256 * k.val] S384x256.size (inbx k),
        k0_pay271 (blocks (rdx t x0) (rdg xs0) k) (inv (sqrs (rdx t x0)) (blocks (rdx t x0) (rdg xs0)))⟩) := by sl_kernel_rfl
theorem y_pieces : (mainAt c t x0 x3 xs0 xs1).1
    = ([5, 4, 3, 2, 1, 0] : List (Fin 6)).map (fun n => ⟨Rect.unit (s := S384x1536) ![0, 256 * n.val] S384x256.size (inby n),
        prod (scl (sqrs (rdx t x0)) (blocks (rdx t x0) (rdg xs0))) (fun k => k0_pay272 (blocks (rdx t x0) (rdg xs0) k) (inv (sqrs (rdx t x0)) (blocks (rdx t x0) (rdg xs0))))
          (rdw xs1 n) (rds t x3)⟩) := by sl_kernel_rfl
theorem s_pieces : (mainAt c t x0 x3 xs0 xs1).2.2.1
    = [⟨Rect.unit (s := S5x384) (k0_off1 (grid0.coords t)) S1x384.size (k0_off1_inb (grid0.coords t)), k0_pay289 (scl (sqrs (rdx t x0)) (blocks (rdx t x0) (rdg xs0)))⟩] := by sl_kernel_rfl
end

end Cert.KernelIdeal.Own

end
-- ==== Proof.SpecBld.lean ====
/- What the first point builds, in one form for all its blocks: a block of the gain times the signs, in three summands, and the four fields
   of the packed weights. -/
module

public import proofs.«01_k».proof.Proof.Spec

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The three summands that a half block of the gain is split into. -/
def gpart (g : Vec F S1x128 .f32) : Fin 3 → FVec F S128x128 .bf16 := ![k0_pay4 g, k0_pay8 g, k0_pay13 (k0_pay9 g)]

theorem slq (rh ch : Fin 2) : S256x256.Slices ![128 * rh.val, 128 * ch.val] S128x128 := by
  have h1 := rh.isLt; have h2 := ch.isLt
  refine ⟨rfl, fun a => ?_⟩
  match a with
  | ⟨0, _⟩ => change 128 * rh.val + 128 ≤ 256; omega
  | ⟨1, _⟩ => change 128 * ch.val + 128 ≤ 256; omega

/-- A quarter of a summand times its signs. -/
def gquart (g : Vec F S1x128 .f32) (p : Fin 3) (rh ch : Fin 2) : FVec F S1x1x128x128 .bf16 :=
  shapeCast S1x1x128x128 (mulf (gpart g p) (extractStridedSlice S128x128 ![128 * rh.val, 128 * ch.val] (k0_pay2 (F := F)) (slq rh ch))) shapeCasts_S128x128_S1x1x128x128

/-- The bits of a field of the packed bytes as bytes of 0 or 1, four to a word, -/
def wbits (w : IVec S128x1536 32) (n : BitVec 32) : IVec S128x1536 32 := andi (shrsi w (broadcast S128x1536 n)) (broadcast S128x1536 16843009#32)
/-- and the words of the field's weights out of its two bits. -/
def wword (lo hi : IVec S128x1536 32) : IVec S128x1536 32 :=
  ori (ori (subi (shli (xori lo (broadcast S128x1536 16843009#32)) (broadcast S128x1536 6#32)) (shli (xori lo (broadcast S128x1536 16843009#32)) (broadcast S128x1536 3#32)))
    (shli (andi (xori lo (broadcast S128x1536 16843009#32)) (xori hi (constantI S128x1536 32 4294967295#32))) (broadcast S128x1536 7#32)))
    (shli (andi lo hi) (broadcast S128x1536 6#32))
/-- The weights of a field. -/
def wfield (w : Vec F S512x1536 .i8) (f : Fin 4) : FVec F S512x1536 .fp8e4m3 :=
  shapeCast S512x1536 (bitcastToFloat .fp8e4m3 (bitcast S512x1536 8
    (wword (wbits (k0_pay197 w) (![0#32, 2#32, 4#32, 6#32] f)) (wbits (k0_pay197 w) (![1#32, 3#32, 5#32, 7#32] f))) bitcasts_S128x1536_w32_S512x1536_w8)) shapeCasts_S512x1536_S512x1536

theorem inbn (i : Fin 8) (rh : Fin 2) : ∀ a, (![0, 128 * (2 * i.val + rh.val)] : Fin 2 → ℕ) a + S1x128.size a ≤ S1x2048.size a := by
  have := i.isLt; have := rh.isLt
  intro a; match a with
  | ⟨0, _⟩ => exact Nat.le_refl 1
  | ⟨1, _⟩ => change 128 * (2 * i.val + rh.val) + 128 ≤ 2048; omega
theorem inbq (i : Fin 8) (p : Fin 3) (rh ch : Fin 2) : ∀ a, (![i.val, p.val, 128 * rh.val, 128 * ch.val] : Fin 4 → ℕ) a + S1x1x128x128.size a ≤ S8x3x256x256.size a := by
  have := i.isLt; have := p.isLt; have := rh.isLt; have := ch.isLt
  intro a; match a with
  | ⟨0, _⟩ => change i.val + 1 ≤ 8; omega
  | ⟨1, _⟩ => change p.val + 1 ≤ 3; omega
  | ⟨2, _⟩ => change 128 * rh.val + 128 ≤ 256; omega
  | ⟨3, _⟩ => change 128 * ch.val + 128 ≤ 256; omega
theorem inbf (f : Fin 4) : ∀ a, (![512 * f.val, 0] : Fin 2 → ℕ) a + S512x1536.size a ≤ S2048x1536.size a := by
  have := f.isLt
  intro a; match a with
  | ⟨0, _⟩ => change 512 * f.val + 512 ≤ 2048; omega
  | ⟨1, _⟩ => exact Nat.le_refl 1536

section
variable (c : Dev nD) (t : Fin cfg0.N) (x1 : Vec F S1x2048 .f32) (x2 : Vec F S512x1536 .i8)

def ldn (i : Fin 8) (rh : Fin 2) : Vec F S1x128 .f32 := View.ld x1 (Rect.unit (s := S1x2048) ![0, 128 * (2 * i.val + rh.val)] S1x128.size (inbn i rh))
def rdn (i : Fin 8) (rh : Fin 2) : Vec F S1x128 .f32 := View.readAt (Elt F) (ms0_1 t).view (Rect.unit (s := S1x2048) ![0, 128 * (2 * i.val + rh.val)] S1x128.size (inbn i rh)).toLoadRect ((hs0_1 t).unread x1)
def rdp : Vec F S512x1536 .i8 := View.readAt (Elt F) (ms0_2 t).view (Rect.unit (s := S512x1536) ![0, 0] S512x1536.size inb_S512x1536_S512x1536_0_0).toLoadRect ((hs0_2 t).unread x2)

theorem rdn_eq (i : Fin 8) (rh : Fin 2) : rdn t x1 i rh = ldn x1 i rh := by
  unfold rdn ldn; simp only [View.readAt_eq_ld, (hs0_1 t).read_unread]
theorem rdp_eq : rdp t x2 = x2 := by
  unfold rdp; simp only [View.readAt_eq_ld, (hs0_2 t).read_unread]
  exact View.ld_unit_lit _ _ (fun a => match a with | ⟨0, _⟩ => rfl | ⟨1, _⟩ => rfl)

theorem w_pieces : (bldAt c t x1 x2).2.1
    = ([3, 2, 1, 0] : List (Fin 4)).map (fun f => ⟨Rect.unit (s := S2048x1536) ![512 * f.val, 0] S512x1536.size (inbf f), wfield (rdp t x2) f⟩) := by sl_kernel_rfl

/-- A quarter's place: the block, the half of its rows, the summand, the half of its columns. -/
abbrev QIx : Type := Fin 8 × Fin 2 × Fin 3 × Fin 2
def quarters : List QIx :=
  ([7, 6, 5, 4, 3, 2, 1, 0] : List (Fin 8)).flatMap fun i => ([1, 0] : List (Fin 2)).flatMap fun rh => ([2, 1, 0] : List (Fin 3)).flatMap fun p =>
    ([1, 0] : List (Fin 2)).map fun ch => (i, rh, p, ch)

theorem g_pieces : (bldAt c t x1 x2).1
    = quarters.map (fun q => ⟨Rect.unit (s := S8x3x256x256) ![q.1.val, q.2.2.1.val, 128 * q.2.1.val, 128 * q.2.2.2.val] S1x1x128x128.size (inbq q.1 q.2.2.1 q.2.1 q.2.2.2),
        gquart (rdn t x1 q.1 q.2.1) q.2.2.1 q.2.1 q.2.2.2⟩) := by sl_kernel_rfl
end

end Cert.KernelIdeal.Own

end
-- ==== Proof.RowMath.lean ====
/- The mathematics of a row: numbers that may be infinite, the Hadamard transform by its butterfly and by its signs, in any grouping of levels. -/
module

public import Idealize.ShloMosaic.PureOps.Ideal
public import Mathlib.Data.EReal.Operations
public import Mathlib.Data.EReal.Inv

@[expose] public section

noncomputable section

namespace Cert.RowMath

/-- `v` is the real `x` if `P`, and infinite if not. -/
def Rep (v : EReal) (P : Prop) (x : ℝ) : Prop := (P → v = (x : EReal)) ∧ (¬P → v = ⊤ ∨ v = ⊥)

theorem inf_add (a b : EReal) (h : a = ⊤ ∨ a = ⊥) : a + b = ⊤ ∨ a + b = ⊥ := by
  rcases h with rfl | rfl
  · by_cases hb : b = ⊥
    · right; rw [hb]; rfl
    · left; exact EReal.top_add_of_ne_bot hb
  · right; exact EReal.bot_add b

theorem inf_neg (a : EReal) (h : a = ⊤ ∨ a = ⊥) : -a = ⊤ ∨ -a = ⊥ := by
  rcases h with rfl | rfl
  · right; rfl
  · left; rfl

theorem Rep.congr {v w : EReal} {P Q : Prop} {x y : ℝ} (h : Rep v P x) (hv : v = w) (hp : P ↔ Q) (hx : x = y) : Rep w Q y := by
  subst hv hx; exact ⟨fun q => h.1 (hp.mpr q), fun q => h.2 (fun p => q (hp.mp p))⟩

theorem Rep.of (v : EReal) : Rep v (v ≠ ⊤ ∧ v ≠ ⊥) v.toReal := by
  refine ⟨fun h => (EReal.coe_toReal h.1 h.2).symm, fun h => ?_⟩
  by_contra hc; push Not at hc; exact h hc

theorem Rep.add {a b : EReal} {P Q : Prop} {x y : ℝ} (ha : Rep a P x) (hb : Rep b Q y) : Rep (a + b) (P ∧ Q) (x + y) := by
  refine ⟨fun h => ?_, fun h => ?_⟩
  · rw [ha.1 h.1, hb.1 h.2]; rfl
  · by_cases hp : P
    · rw [add_comm]; exact inf_add _ _ (hb.2 fun q => h ⟨hp, q⟩)
    · exact inf_add _ _ (ha.2 hp)

theorem Rep.neg {a : EReal} {P : Prop} {x : ℝ} (ha : Rep a P x) : Rep (-a) P (-x) :=
  ⟨fun h => by rw [ha.1 h]; rfl, fun h => inf_neg _ (ha.2 h)⟩

theorem Rep.sub {a b : EReal} {P Q : Prop} {x y : ℝ} (ha : Rep a P x) (hb : Rep b Q y) : Rep (a - b) (P ∧ Q) (x - y) := by
  rw [sub_eq_add_neg, sub_eq_add_neg]; exact ha.add hb.neg

theorem Rep.mul {a : EReal} {P : Prop} {x : ℝ} (c : ℝ) (hc : c ≠ 0) (ha : Rep a P x) : Rep (a * (c : EReal)) P (x * c) := by
  refine ⟨fun h => by rw [ha.1 h]; rfl, fun h => ?_⟩
  rcases lt_or_gt_of_ne hc with h0 | h0
  · rcases ha.2 h with rfl | rfl
    · right; exact EReal.top_mul_coe_of_neg h0
    · left; exact EReal.bot_mul_coe_of_neg h0
  · rcases ha.2 h with rfl | rfl
    · left; exact EReal.top_mul_coe_of_pos h0
    · right; exact EReal.bot_mul_coe_of_pos h0

theorem Rep.sum {ι : Type*} (s : Finset ι) (v : ι → EReal) (P : ι → Prop) (x : ι → ℝ) (h : ∀ i ∈ s, Rep (v i) (P i) (x i)) :
    Rep (∑ i ∈ s, v i) (∀ i ∈ s, P i) (∑ i ∈ s, x i) := by
  classical
  induction s using Finset.induction_on with
  | empty => exact ⟨fun _ => by simp, fun h => absurd (fun i hi => absurd hi (Finset.notMem_empty i)) h⟩
  | insert a s ha ih =>
    rw [Finset.sum_insert ha, Finset.sum_insert ha]
    refine ((h a (Finset.mem_insert_self _ _)).add (ih fun i hi => h i (Finset.mem_insert_of_mem hi))).congr rfl ?_ rfl
    simp

/-- The sign between two bits, and between two numbers of `n` bits. -/
def sg : ℕ → ℕ → ℕ → ℤ
  | 0, _, _ => 1
  | n + 1, q, a => sg n (q / 2) (a / 2) * (if q % 2 < 1 then 1 else if a % 2 < 1 then 1 else -1)

theorem sg_pm (n : ℕ) : ∀ q a, sg n q a = 1 ∨ sg n q a = -1 := by
  induction n with
  | zero => intro q a; left; rfl
  | succ n ih => intro q a; unfold sg; rcases ih (q / 2) (a / 2) with h | h <;> rw [h] <;> split_ifs <;> simp

/-- The signs of numbers in two parts. -/
theorem sg_add (n m : ℕ) : ∀ q a, sg (n + m) q a = sg n (q / 2 ^ m) (a / 2 ^ m) * sg m (q % 2 ^ m) (a % 2 ^ m) := by
  induction m with
  | zero => intro q a; simp [sg]
  | succ m ih =>
    intro q a
    show sg (n + m) (q / 2) (a / 2) * _ = _
    rw [ih]
    show _ = _ * (sg m (q % 2 ^ (m + 1) / 2) (a % 2 ^ (m + 1) / 2) * _)
    have e (q : ℕ) : q / 2 ^ (m + 1) = q / 2 / 2 ^ m := by rw [pow_succ', Nat.div_div_eq_div_mul]
    have e2 (q : ℕ) : q % 2 ^ (m + 1) / 2 = q / 2 % 2 ^ m := by rw [pow_succ', Nat.mod_mul_right_div_self]
    have e3 (q : ℕ) : q % 2 ^ (m + 1) % 2 = q % 2 := Nat.mod_mod_of_dvd _ ⟨2 ^ m, by rw [pow_succ']⟩
    rw [e q, e a, e2 q, e2 a, e3 q, e3 a, mul_assoc]

/-- How many of the `n` lowest bits are set. -/
def pc : ℕ → ℕ → ℕ
  | 0, _ => 0
  | n + 1, z => pc n (z / 2) + z % 2

theorem sg_pc (n : ℕ) : ∀ q a, sg n q a = if pc n (q &&& a) % 2 = 0 then 1 else -1 := by
  induction n with
  | zero => intro q a; rfl
  | succ n ih =>
    intro q a
    have e1 : (q &&& a) / 2 = q / 2 &&& a / 2 := by rw [← Nat.shiftRight_one, ← Nat.shiftRight_one, ← Nat.shiftRight_one, Nat.shiftRight_and_distrib]
    have e2 : (q &&& a) % 2 = if q % 2 < 1 then 0 else if a % 2 < 1 then 0 else 1 := by
      have := Nat.and_mod_two_pow (a := q) (b := a) (n := 1)
      rw [pow_one] at this
      rw [this]
      rcases Nat.mod_two_eq_zero_or_one q with h | h <;> rcases Nat.mod_two_eq_zero_or_one a with h' | h' <;> rw [h, h'] <;> rfl
    show sg n (q / 2) (a / 2) * _ = if (pc n ((q &&& a) / 2) + (q &&& a) % 2) % 2 = 0 then 1 else -1
    rw [ih, e1, e2]
    rcases Nat.mod_two_eq_zero_or_one (pc n (q / 2 &&& a / 2)) with h | h <;> split_ifs <;> simp <;> omega

/-- The butterfly: `n` levels, the last one `L` apart. -/
def hd : ℕ → ℕ → (ℕ → EReal) → ℕ → ℕ → EReal
  | 0, _, f, _, p => f p
  | n + 1, L, f, q, p => if q % 2 < 1 then hd n (2 * L) f (q / 2) p + hd n (2 * L) f (q / 2) (p + L) else hd n (2 * L) f (q / 2) p - hd n (2 * L) f (q / 2) (p + L)

theorem hd_succ (n L : ℕ) (f : ℕ → EReal) (q p : ℕ) : hd (n + 1) L f q p
    = if q % 2 < 1 then hd n (2 * L) f (q / 2) p + hd n (2 * L) f (q / 2) (p + L) else hd n (2 * L) f (q / 2) p - hd n (2 * L) f (q / 2) (p + L) := rfl

theorem sum_two (N : ℕ) (f : ℕ → ℝ) : ∑ a ∈ Finset.range (2 * N), f a = ∑ a ∈ Finset.range N, f (2 * a) + ∑ a ∈ Finset.range N, f (2 * a + 1) := by
  induction N with
  | zero => simp
  | succ N ih =>
    rw [show 2 * (N + 1) = 2 * N + 1 + 1 by ring, Finset.sum_range_succ, Finset.sum_range_succ, ih, Finset.sum_range_succ _ N, Finset.sum_range_succ _ N]; ring

theorem all_two (N : ℕ) (P : ℕ → Prop) : (∀ a ∈ Finset.range (2 * N), P a) ↔ (∀ a ∈ Finset.range N, P (2 * a)) ∧ (∀ a ∈ Finset.range N, P (2 * a + 1)) := by
  simp only [Finset.mem_range]
  refine ⟨fun h => ⟨fun a ha => h _ (by omega), fun a ha => h _ (by omega)⟩, fun h a ha => ?_⟩
  rcases Nat.even_or_odd' a with ⟨b, rfl | rfl⟩
  · exact h.1 b (by omega)
  · exact h.2 b (by omega)

theorem hd_rep (f : ℕ → EReal) (P : ℕ → Prop) (g : ℕ → ℝ) (h : ∀ p, Rep (f p) (P p) (g p)) (n : ℕ) : ∀ L q p,
    Rep (hd n L f q p) (∀ a ∈ Finset.range (2 ^ n), P (a * L + p)) (∑ a ∈ Finset.range (2 ^ n), (sg n q a : ℝ) * g (a * L + p)) := by
  induction n with
  | zero => intro L q p; refine (h p).congr rfl ?_ ?_ <;> simp [sg]
  | succ n ih =>
    intro L q p
    have h1 := ih (2 * L) (q / 2) p
    have h2 := ih (2 * L) (q / 2) (p + L)
    have e1 (a : ℕ) : a * (2 * L) + p = 2 * a * L + p := by ring
    have e2 (a : ℕ) : a * (2 * L) + (p + L) = (2 * a + 1) * L + p := by ring
    have d1 (a : ℕ) : 2 * a / 2 = a := by omega
    have d2 (a : ℕ) : (2 * a + 1) / 2 = a := by omega
    have m1 (a : ℕ) : 2 * a % 2 = 0 := by omega
    have m2 (a : ℕ) : (2 * a + 1) % 2 = 1 := by omega
    simp only [e1] at h1
    simp only [e2] at h2
    rw [pow_succ', sum_two, all_two]
    unfold hd
    split_ifs with hq
    · refine (h1.add h2).congr rfl Iff.rfl ?_
      simp [sg, hq, d1, d2]
    · refine (h1.sub h2).congr rfl Iff.rfl ?_
      simp [sg, hq, d1, d2, m1, m2, sub_eq_add_neg]

/-- The summands of a gain `g` in three: all but the first are nothing, unless `g` is infinite. -/
def gs (g : EReal) : Fin 3 → EReal := ![g, g - g, g - g - (g - g)]

theorem gs_tail (x g s : EReal) (h : x * g ≠ ⊤ ∧ x * g ≠ ⊥) (p : Fin 3) (hp : p ≠ 0) : x * (gs g p * s) = 0 := by
  have key : x = 0 ∨ (g ≠ ⊤ ∧ g ≠ ⊥) := by
    by_contra hc
    push Not at hc
    obtain ⟨hx, hg⟩ := hc
    rcases lt_or_gt_of_ne hx with h0 | h0
    · by_cases ht : g = ⊤
      · exact h.2 (by rw [ht, EReal.mul_top_of_neg h0])
      · exact h.1 (by rw [hg ht, EReal.mul_bot_of_neg h0])
    · by_cases ht : g = ⊤
      · exact h.1 (by rw [ht, EReal.mul_top_of_pos h0])
      · exact h.2 (by rw [hg ht, EReal.mul_bot_of_pos h0])
  rcases key with rfl | ⟨h1, h2⟩
  · exact zero_mul _
  · have e : g - g = 0 := by lift g to ℝ using ⟨h1, h2⟩; rw [← EReal.coe_sub, sub_self]; rfl
    match p, hp with
    | ⟨1, _⟩, _ => show x * ((g - g) * s) = 0; rw [e]; simp
    | ⟨2, _⟩, _ => show x * ((g - g - (g - g)) * s) = 0; rw [e]; simp

/-- One block's product with the signs, the gain in three summands. -/
theorem block_rep (N : ℕ) (x g : ℕ → EReal) (s : ℕ → ℤ) (hs : ∀ r, s r = 1 ∨ s r = -1) :
    Rep (∑ r ∈ Finset.range N, x r * (gs (g r) 0 * ((s r : ℝ) : EReal)) + ∑ r ∈ Finset.range N, x r * (gs (g r) 1 * ((s r : ℝ) : EReal))
        + ∑ r ∈ Finset.range N, x r * (gs (g r) 2 * ((s r : ℝ) : EReal)))
      (∀ r ∈ Finset.range N, x r * g r ≠ ⊤ ∧ x r * g r ≠ ⊥) (∑ r ∈ Finset.range N, (s r : ℝ) * (x r * g r).toReal) := by
  have h0 : Rep (∑ r ∈ Finset.range N, x r * (gs (g r) 0 * ((s r : ℝ) : EReal))) (∀ r ∈ Finset.range N, x r * g r ≠ ⊤ ∧ x r * g r ≠ ⊥)
      (∑ r ∈ Finset.range N, (s r : ℝ) * (x r * g r).toReal) := by
    refine Rep.sum _ _ _ _ fun r _ => ?_
    refine ((Rep.of (x r * g r)).mul (s r : ℝ) ?_).congr (mul_assoc _ _ _) Iff.rfl (mul_comm _ _)
    rcases hs r with h | h <;> rw [h] <;> norm_num
  refine ⟨fun h => ?_, fun h => inf_add _ _ (inf_add _ _ (h0.2 h))⟩
  rw [h0.1 h, Finset.sum_eq_zero (fun r hr => gs_tail _ _ _ (h r hr) 1 (by decide)), Finset.sum_eq_zero (fun r hr => gs_tail _ _ _ (h r hr) 2 (by decide)),
    add_zero, add_zero]

theorem sum_blocks (A B : ℕ) (f : ℕ → ℝ) : ∑ k ∈ Finset.range (A * B), f k = ∑ i ∈ Finset.range A, ∑ r ∈ Finset.range B, f (i * B + r) := by
  induction A with
  | zero => simp
  | succ A ih => rw [add_mul, one_mul, Finset.sum_range_add, ih, Finset.sum_range_succ]

theorem all_blocks (A B : ℕ) (P : ℕ → Prop) : (∀ k ∈ Finset.range (A * B), P k) ↔ ∀ i ∈ Finset.range A, ∀ r ∈ Finset.range B, P (i * B + r) := by
  simp only [Finset.mem_range]
  refine ⟨fun h i hi r hr => h _ ?_, fun h k hk => ?_⟩
  · have : i * B + B ≤ A * B := by rw [← Nat.succ_mul]; exact Nat.mul_le_mul_right _ hi
    omega
  · have hB : 0 < B := by rcases Nat.eq_zero_or_pos B with rfl | h; · simp at hk
                          exact h
    have := h (k / B) (by rw [Nat.div_lt_iff_lt_mul hB]; exact hk) (k % B) (Nat.mod_lt _ hB)
    rwa [Nat.div_add_mod' k B] at this

/-- What a point computes for column `s` of block `k`, before the row's factor. -/
def vK (x g : ℕ → EReal) (k s : ℕ) : EReal :=
  hd 3 1 (fun i => ∑ r ∈ Finset.range 256, x (i * 256 + r) * (gs (g (i * 256 + r)) 0 * ((sg 8 s r : ℝ) : EReal))
    + ∑ r ∈ Finset.range 256, x (i * 256 + r) * (gs (g (i * 256 + r)) 1 * ((sg 8 s r : ℝ) : EReal))
    + ∑ r ∈ Finset.range 256, x (i * 256 + r) * (gs (g (i * 256 + r)) 2 * ((sg 8 s r : ℝ) : EReal))) k 0

/-- Every column is real where all the products are, and then it is their signed sum; otherwise every column is infinite. -/
theorem vK_rep (x g : ℕ → EReal) (k s : ℕ) (hs : s < 256) :
    Rep (vK x g k s) (∀ a ∈ Finset.range 2048, x a * g a ≠ ⊤ ∧ x a * g a ≠ ⊥) (∑ a ∈ Finset.range 2048, (sg 11 (k * 256 + s) a : ℝ) * (x a * g a).toReal) := by
  refine (hd_rep _ _ _ (fun i => block_rep 256 (fun r => x (i * 256 + r)) (fun r => g (i * 256 + r)) (sg 8 s) (sg_pm 8 s)) 3 1 k 0).congr rfl ?_ ?_
  · rw [show 2048 = 2 ^ 3 * 256 by norm_num, all_blocks]; simp only [mul_one, add_zero]
  · rw [show 2048 = 2 ^ 3 * 256 by norm_num, sum_blocks]
    refine Finset.sum_congr rfl fun i _ => ?_
    rw [Finset.mul_sum]
    refine Finset.sum_congr rfl fun r hr => ?_
    have hr : r < 256 := Finset.mem_range.mp hr
    rw [show 11 = 3 + 8 from rfl, sg_add, show 2 ^ 8 = 256 from rfl, show (k * 256 + s) / 256 = k by omega, show (k * 256 + s) % 256 = s by omega,
      show (i * 256 + r) / 256 = i by omega, show (i * 256 + r) % 256 = r by omega]
    simp only [mul_one, add_zero]
    push_cast
    ring

/-- The whole transform of the products with a real factor between. -/
theorem hR_rep (x g : ℕ → EReal) (r : ℝ) (hr : r ≠ 0) (q : ℕ) :
    Rep (hd 11 1 (fun a => x a * (r : EReal) * g a) q 0) (∀ a ∈ Finset.range 2048, x a * g a ≠ ⊤ ∧ x a * g a ≠ ⊥)
      ((∑ a ∈ Finset.range 2048, (sg 11 q a : ℝ) * (x a * g a).toReal) * r) := by
  have h (a : ℕ) : Rep (x a * (r : EReal) * g a) (x a * g a ≠ ⊤ ∧ x a * g a ≠ ⊥) ((x a * g a).toReal * r) :=
    ((Rep.of (x a * g a)).mul r hr).congr (by rw [mul_assoc, mul_comm (g a), ← mul_assoc]) Iff.rfl rfl
  refine (hd_rep _ _ _ h 11 1 q 0).congr rfl ?_ ?_
  · simp only [mul_one, add_zero]; rfl
  · simp only [mul_one, add_zero]; rw [Finset.sum_mul]
    exact Finset.sum_congr rfl fun a _ => (mul_assoc _ _ _).symm

theorem hd_zero (L : ℕ) (f : ℕ → EReal) (q p : ℕ) : hd 0 L f q p = f p := rfl

attribute [irreducible] hd

end Cert.RowMath

end
-- ==== Proof.RowScale.lean ====
/- A row's norm, scale and codes: the point's order of them gives what the plain order gives. -/
module

public import proofs.«01_k».proof.Proof.RowMath
public import Mathlib.Order.Bounds.Basic
public import Mathlib.Data.Finset.Fold
public import Mathlib.Tactic.FinCases

@[expose] public section

noncomputable section

namespace Cert.RowMath

open Idealize.ShloMosaic

theorem lit_c : ∃ c : ℝ, 0 < c ∧ Ideal.ofBits .f32 0x3CB504F3#32 = (c : EReal) := by
  refine ⟨11863283 * (2 : ℝ) ^ (-29 : ℤ), by positivity, ?_⟩
  simp [Ideal.ofBits, Ideal.ieee, -EReal.coe_mul]

theorem lit_eps : ∃ c : ℝ, 0 < c ∧ Ideal.ofBits .f32 0x3727C5AC#32 = (c : EReal) := by
  refine ⟨10995116 * (2 : ℝ) ^ (-40 : ℤ), by positivity, ?_⟩
  simp [Ideal.ofBits, Ideal.ieee, -EReal.coe_mul]

theorem lit_mean : Ideal.ofBits .f32 0x3A000000#32 = (((2048 : ℝ)⁻¹ : ℝ) : EReal) := by
  simp [Ideal.ofBits, Ideal.ieee, -EReal.coe_mul]; norm_num

theorem lit_2048 : Ideal.ofBits .f32 0x45000000#32 = ((2048 : ℝ) : EReal) := by
  simp [Ideal.ofBits, Ideal.ieee, -EReal.coe_mul]; norm_num

theorem lit_7 : Ideal.ofBits .f32 0x40E00000#32 = ((7 : ℝ) : EReal) := by
  simp [Ideal.ofBits, Ideal.ieee, -EReal.coe_mul]; norm_num

theorem lit_m7 : Ideal.ofBits .f32 0xC0E00000#32 = ((-7 : ℝ) : EReal) := by
  simp [Ideal.ofBits, Ideal.ieee, -EReal.coe_mul, -EReal.coe_neg]; norm_num

theorem lit_bot : Ideal.ofBits .f32 0xFF800000#32 = ⊥ := by
  simp [Ideal.ofBits, Ideal.ieee]

theorem div_of_ne (x y : EReal) (h : y ≠ 0) : Ideal.div x y = x * y⁻¹ := if_neg h

/-- The magnitude. -/
def mag (x : EReal) : EReal := max x (-x)

theorem mag_inf (x : EReal) (h : x = ⊤ ∨ x = ⊥) : mag x = ⊤ := by
  rcases h with rfl | rfl <;> simp [mag]

theorem mag_mul (x ρ : ℝ) (h : 0 < ρ) : mag ((x : EReal) * (ρ : EReal)) = mag (x : EReal) * (ρ : EReal) := by
  unfold mag
  rw [← EReal.coe_mul, ← EReal.coe_neg, ← EReal.coe_neg, ← EReal.coe_strictMono.monotone.map_max, ← EReal.coe_strictMono.monotone.map_max, ← EReal.coe_mul,
    max_mul_of_nonneg _ _ h.le, neg_mul]

theorem mul_self_nonneg' (x : EReal) : 0 ≤ x * x := by
  induction x using EReal.rec with
  | bot => simp
  | top => simp
  | coe r => rw [← EReal.coe_mul]; exact_mod_cast mul_self_nonneg r

/-- The sum of a row's squares. -/
def ssq (x : ℕ → EReal) : EReal := ∑ a ∈ Finset.range 2048, x a * x a

/-- The reciprocal root of a row's mean square, and the same with the point's order of it and the transform's factor. -/
def rn (x : ℕ → EReal) : EReal := Ideal.rsqrt (Ideal.div (ssq x) (Ideal.ofBits .f32 0x45000000#32) + Ideal.ofBits .f32 0x3727C5AC#32)
def rc (x : ℕ → EReal) : EReal :=
  Ideal.rsqrt (ssq x * Ideal.ofBits .f32 0x3A000000#32 + Ideal.ofBits .f32 0x3727C5AC#32) * Ideal.ofBits .f32 0x3CB504F3#32

theorem rc_eq (x : ℕ → EReal) : rc x = rn x * Ideal.ofBits .f32 0x3CB504F3#32 := by
  unfold rc rn
  rw [div_of_ne _ _ (by rw [lit_2048]; norm_num), lit_2048, lit_mean, EReal.coe_inv]

theorem rn_cases (x : ℕ → EReal) : rn x = 0 ∨ ∃ r : ℝ, 0 < r ∧ rn x = (r : EReal) := by
  have h0 : 0 ≤ ssq x := Finset.sum_nonneg fun a _ => mul_self_nonneg' (x a)
  obtain ⟨e, he, e1⟩ := lit_eps
  unfold rn
  rw [div_of_ne _ _ (by rw [lit_2048]; norm_num), lit_2048, e1, ← EReal.coe_inv]
  revert h0
  induction ssq x using EReal.rec with
  | bot => intro h0; simp at h0
  | top => intro _; left; rw [EReal.top_mul_coe_of_pos (by norm_num), EReal.top_add_coe]; rfl
  | coe s =>
    intro h0
    have hs : 0 ≤ s := by exact_mod_cast h0
    have hp : 0 < s * (2048 : ℝ)⁻¹ + e := by positivity
    right
    refine ⟨(Real.sqrt (s * (2048 : ℝ)⁻¹ + e))⁻¹, by positivity, ?_⟩
    rw [← EReal.coe_mul, ← EReal.coe_add, Ideal.rsqrt_coe, if_neg hp.not_gt, if_neg hp.ne']

/-- The transformed entries, as the mathematics has them. -/
def hR (x g : ℕ → EReal) (q : ℕ) : EReal := hd 11 1 (fun a => x a * rn x * g a) q 0 * Ideal.ofBits .f32 0x3CB504F3#32

/-- A row's scale from its largest magnitude. -/
def sc (a : EReal) : EReal := if a = 0 then 1 else Ideal.div a (Ideal.ofBits .f32 0x40E00000#32)

theorem sc_ne (a : EReal) : sc a ≠ 0 := by
  unfold sc
  split_ifs with h
  · exact one_ne_zero
  · rw [div_of_ne _ _ (by rw [lit_7]; norm_num), lit_7, ← EReal.coe_inv]
    refine mul_ne_zero h ?_
    norm_num

theorem sc_top : (sc ⊤)⁻¹ = 0 := by
  unfold sc
  rw [if_neg (by simp), div_of_ne _ _ (by rw [lit_7]; norm_num), lit_7, ← EReal.coe_inv, EReal.top_mul_coe_of_pos (by norm_num), EReal.inv_top]

/-- The point's largest magnitude times its factor is the row's largest magnitude, and its quotients are the row's. -/
theorem row (x g : ℕ → EReal) (MK MR : EReal)
    (hK : IsGreatest {y | ∃ k < 8, ∃ s < 256, y = mag (vK x g k s)} MK) (hM : IsGreatest {y | ∃ q < 2048, y = mag (hR x g q)} MR) :
    MK * rc x = MR ∧ ∀ k < 8, ∀ s < 256, vK x g k s * Ideal.div (rc x) (sc MR) = Ideal.div (hR x g (k * 256 + s)) (sc MR) := by
  obtain ⟨c, hc, ec⟩ := lit_c
  have hS := sc_ne MR
  rw [rc_eq]
  rcases rn_cases x with h0 | ⟨ρ, hρ, hr⟩
  · have z (q : ℕ) : hR x g q = 0 := by
      unfold hR
      rw [h0]
      have := (hd_rep (fun a => x a * 0 * g a) (fun _ => True) (fun _ => 0) (fun p => ⟨fun _ => by simp, fun h => absurd trivial h⟩) 11 1 q 0).1 (fun _ _ => trivial)
      rw [this]; simp
    obtain ⟨q, _, hq⟩ := hM.1
    refine ⟨by rw [hq, z, h0]; simp [mag], fun k _ s _ => ?_⟩
    rw [z, h0, div_of_ne _ _ hS, div_of_ne _ _ hS]; simp
  · have hR' (q : ℕ) := (hR_rep x g ρ hρ.ne' q).mul c hc.ne'
    rw [← hr, ← ec] at hR'
    change ∀ q, Rep (hR x g q) _ _ at hR'
    have eR : rn x * Ideal.ofBits .f32 0x3CB504F3#32 = ((ρ * c : ℝ) : EReal) := by rw [hr, ec, EReal.coe_mul]
    have hp : 0 < ρ * c := mul_pos hρ hc
    rw [eR]
    have hm (k : ℕ) (s : ℕ) (hs : s < 256) : mag (hR x g (k * 256 + s)) = mag (vK x g k s) * ((ρ * c : ℝ) : EReal) := by
      have a := vK_rep x g k s hs
      have b := hR' (k * 256 + s)
      by_cases hP : ∀ a ∈ Finset.range 2048, x a * g a ≠ ⊤ ∧ x a * g a ≠ ⊥
      · rw [a.1 hP, b.1 hP, ← mag_mul _ _ hp, mul_assoc, EReal.coe_mul]
      · rw [mag_inf _ (a.2 hP), mag_inf _ (b.2 hP), EReal.top_mul_coe_of_pos hp]
    have hmax : MK * ((ρ * c : ℝ) : EReal) = MR := by
      refine IsGreatest.unique (s := {y | ∃ q < 2048, y = mag (hR x g q)}) ⟨?_, ?_⟩ hM
      · obtain ⟨k, hk, s, hs, e⟩ := hK.1
        exact ⟨k * 256 + s, by omega, by rw [hm k s hs, e]⟩
      · rintro y ⟨q, hq, rfl⟩
        have e : q = q / 256 * 256 + q % 256 := by omega
        rw [e, hm _ _ (Nat.mod_lt _ (by norm_num))]
        exact mul_le_mul_of_nonneg_right (hK.2 ⟨q / 256, by omega, q % 256, Nat.mod_lt _ (by norm_num), rfl⟩) (by exact_mod_cast hp.le)
    refine ⟨hmax, fun k hk s hs => ?_⟩
    rw [div_of_ne _ _ hS, div_of_ne _ _ hS]
    have a := vK_rep x g k s hs
    have b := hR' (k * 256 + s)
    by_cases hP : ∀ a ∈ Finset.range 2048, x a * g a ≠ ⊤ ∧ x a * g a ≠ ⊥
    · rw [← mul_assoc]
      congr 1
      rw [a.1 hP, b.1 hP, ← EReal.coe_mul, mul_assoc]
    · have : MR = ⊤ := by
        refine top_le_iff.mp (hM.2 ⟨0, by norm_num, ?_⟩)
        exact (mag_inf _ ((hR' 0).2 hP)).symm
      rw [this, sc_top]; simp

/-- Rounding to the nearest integer keeps to an integer's side. -/
theorem rhe_le (r : ℝ) (n : ℤ) (h : r ≤ n) : Ideal.roundHalfEven r ≤ n := by
  have h0 : ⌊r⌋ ≤ n := by exact_mod_cast (Int.floor_le r).trans h
  unfold Ideal.roundHalfEven
  dsimp only
  rcases h0.lt_or_eq with h1 | h1
  · split_ifs <;> omega
  · have : r - (⌊r⌋ : ℝ) < 1 / 2 := by rw [h1]; linarith
    rw [if_pos this]; omega

theorem le_rhe (r : ℝ) (n : ℤ) (h : (n : ℝ) ≤ r) : n ≤ Ideal.roundHalfEven r := by
  have h0 : n ≤ ⌊r⌋ := Int.le_floor.mpr h
  unfold Ideal.roundHalfEven
  dsimp only
  split_ifs <;> omega

/-- Clipped before or after it is rounded, a quotient gives the same integer. -/
theorem code (z : EReal) : ∃ n : ℤ, -7 ≤ n ∧ n ≤ 7 ∧
    Ideal.liftRound Ideal.roundHalfEven (min (Ideal.ofBits .f32 0x40E00000#32) (max (Ideal.ofBits .f32 0xC0E00000#32) z)) = ((n : ℝ) : EReal) ∧
    min (Ideal.ofBits .f32 0x40E00000#32) (max (Ideal.ofBits .f32 0xC0E00000#32) (Ideal.liftRound Ideal.roundHalfEven z)) = ((n : ℝ) : EReal) := by
  have r7 : Ideal.roundHalfEven 7 = 7 := le_antisymm (rhe_le _ _ (by norm_num)) (le_rhe _ _ (by norm_num))
  have rm7 : Ideal.roundHalfEven (-7) = -7 := le_antisymm (rhe_le _ _ (by norm_num)) (le_rhe _ _ (by norm_num))
  rw [lit_7, lit_m7]
  induction z using EReal.rec with
  | bot =>
    refine ⟨-7, by norm_num, by norm_num, ?_, ?_⟩
    · rw [max_eq_left bot_le, ← EReal.coe_strictMono.monotone.map_min, min_eq_right (by norm_num), Ideal.liftRound_coe, rm7]
    · rw [Ideal.liftRound_bot, max_eq_left bot_le, ← EReal.coe_strictMono.monotone.map_min, min_eq_right (by norm_num)]; norm_num
  | top =>
    refine ⟨7, by norm_num, by norm_num, ?_, ?_⟩
    · rw [max_eq_right le_top, min_eq_left le_top, Ideal.liftRound_coe, r7]
    · rw [Ideal.liftRound_top, max_eq_right le_top, min_eq_left le_top]; norm_num
  | coe r =>
    rw [Ideal.liftRound_coe]
    simp only [← EReal.coe_strictMono.monotone.map_max, ← EReal.coe_strictMono.monotone.map_min, Ideal.liftRound_coe]
    rcases le_total r (-7) with h | h
    · refine ⟨-7, by norm_num, by norm_num, ?_, ?_⟩
      · rw [max_eq_left h, min_eq_right (by norm_num), rm7]
      · have := rhe_le r (-7) (by push_cast; exact h)
        have : (Ideal.roundHalfEven r : ℝ) ≤ -7 := by exact_mod_cast this
        rw [max_eq_left this, min_eq_right (by norm_num)]; norm_num
    · rcases le_total r 7 with h' | h'
      · have a := rhe_le r 7 (by push_cast; exact h')
        have b := le_rhe r (-7) (by push_cast; exact h)
        refine ⟨Ideal.roundHalfEven r, b, a, ?_, ?_⟩
        · rw [max_eq_right h, min_eq_right h']
        · have a : (Ideal.roundHalfEven r : ℝ) ≤ 7 := by exact_mod_cast a
          have b : -7 ≤ (Ideal.roundHalfEven r : ℝ) := by exact_mod_cast b
          rw [max_eq_right b, min_eq_right a]
      · refine ⟨7, by norm_num, by norm_num, ?_, ?_⟩
        · rw [max_eq_right h, min_eq_left h', r7]
        · have := le_rhe r 7 (by push_cast; exact h')
          have : 7 ≤ (Ideal.roundHalfEven r : ℝ) := by exact_mod_cast this
          rw [max_eq_right (by linarith), min_eq_left this]; norm_num

/-- The code of an integer of the range, as a byte and read back. -/
theorem byte_code (n : ℤ) (h1 : -7 ≤ n) (h2 : n ≤ 7) :
    ((BitVec.signExtend 32 (BitVec.setWidth 8 (Ideal.fptosi 32 ((n : ℝ) : EReal)))).toInt) = n := by
  have e : Ideal.fptosi 32 ((n : ℝ) : EReal) = BitVec.ofInt 32 n := by
    unfold Ideal.fptosi
    congr 1
    show max _ (min _ (if (0 : ℝ) ≤ (n : ℝ) then ⌊(n : ℝ)⌋ else ⌈(n : ℝ)⌉)) = n
    rw [Int.floor_intCast, Int.ceil_intCast, ite_self]
    norm_num; omega
  rw [e]
  interval_cases n <;> decide

/-- A row's entries by their numbers. -/
def ext (f : Fin 2048 → EReal) (a : ℕ) : EReal := if h : a < 2048 then f ⟨a, h⟩ else 0

theorem ext_of (f : Fin 2048 → EReal) (a : ℕ) (h : a < 2048) : ext f a = f ⟨a, h⟩ := dif_pos h

theorem sum_fin (f : Fin 2048 → EReal) : ∑ x, f x = ∑ a ∈ Finset.range 2048, ext f a := by
  rw [Finset.sum_range]; exact Finset.sum_congr rfl fun x _ => (ext_of f x x.2).symm

theorem ssq_fin (f : Fin 2048 → EReal) : ∑ x, f x * f x = ssq (ext f) := by
  unfold ssq
  rw [Finset.sum_range]; exact Finset.sum_congr rfl fun x _ => by rw [ext_of f x x.2]

/-- A running maximum from below is the greatest of its values. -/
theorem fold_greatest {ι : Type*} (s : Finset ι) (f : ι → EReal) (h : s.Nonempty) : IsGreatest {y | ∃ i ∈ s, y = f i} (s.fold max ⊥ f) := by
  refine ⟨?_, ?_⟩
  · obtain ⟨i, hi, e⟩ := s.exists_max_image f h
    refine ⟨i, hi, le_antisymm ((Finset.fold_max_le _).mpr ⟨bot_le, e⟩) ((Finset.le_fold_max _).mpr (Or.inr ⟨i, hi, le_rfl⟩))⟩
  · rintro y ⟨i, hi, rfl⟩
    exact (Finset.le_fold_max _).mpr (Or.inr ⟨i, hi, le_rfl⟩)

/-- A weight from its byte: the two-bit field less one. -/
def wv (b : BitVec 8) (f : ℕ) : ℤ := ((b.toNat / 4 ^ f % 4 : ℕ) : ℤ) - 1

/-- Row `j` of a column of weights, whose bytes have four rows each. -/
def wt (B : Fin 512 → BitVec 8) (j : ℕ) : EReal := (((wv (B ⟨j % 512, Nat.mod_lt _ (by norm_num)⟩) (j / 512) : ℤ) : ℝ) : EReal)

/-- A row of codes with a column of weights. -/
def dot (c w : ℕ → EReal) : EReal := ∑ j ∈ Finset.range 2048, c j * w j

theorem dot_four (c w : ℕ → EReal) : dot c w = ((∑ x : Fin 512, c x * w x + ∑ x : Fin 512, c (512 + x) * w (512 + x))
    + ∑ x : Fin 512, c (1024 + x) * w (1024 + x)) + ∑ x : Fin 512, c (1536 + x) * w (1536 + x) := by
  unfold dot
  rw [show 2048 = 512 + 512 + 512 + 512 by norm_num, Finset.sum_range_add, Finset.sum_range_add, Finset.sum_range_add]
  simp only [Finset.sum_range]

theorem dot_eight (c w : ℕ → EReal) : dot c w = ((((((∑ x : Fin 256, c (0 * 256 + x) * w (0 * 256 + x) + ∑ x : Fin 256, c (1 * 256 + x) * w (1 * 256 + x))
    + ∑ x : Fin 256, c (2 * 256 + x) * w (2 * 256 + x)) + ∑ x : Fin 256, c (3 * 256 + x) * w (3 * 256 + x)) + ∑ x : Fin 256, c (4 * 256 + x) * w (4 * 256 + x))
    + ∑ x : Fin 256, c (5 * 256 + x) * w (5 * 256 + x)) + ∑ x : Fin 256, c (6 * 256 + x) * w (6 * 256 + x)) + ∑ x : Fin 256, c (7 * 256 + x) * w (7 * 256 + x) := by
  unfold dot
  rw [show 2048 = 256 + 256 + 256 + 256 + 256 + 256 + 256 + 256 by norm_num, Finset.sum_range_add, Finset.sum_range_add, Finset.sum_range_add, Finset.sum_range_add,
    Finset.sum_range_add, Finset.sum_range_add, Finset.sum_range_add]
  simp only [Finset.sum_range]
  norm_num

theorem ssq_eight (x : ℕ → EReal) : ssq x = ∑ s : Fin 256, (((((((x (0 * 256 + s) * x (0 * 256 + s) + x (1 * 256 + s) * x (1 * 256 + s)) + x (2 * 256 + s) * x (2 * 256 + s))
    + x (3 * 256 + s) * x (3 * 256 + s)) + x (4 * 256 + s) * x (4 * 256 + s)) + x (5 * 256 + s) * x (5 * 256 + s)) + x (6 * 256 + s) * x (6 * 256 + s))
    + x (7 * 256 + s) * x (7 * 256 + s)) := by
  rw [show ssq x = dot x x from rfl, dot_eight]
  simp only [Finset.sum_add_distrib]

/-- The largest of eight, taken one after another. -/
def max8 (m : Fin 8 → EReal) : EReal := max (max (max (max (max (max (max (m 0) (m 1)) (m 2)) (m 3)) (m 4)) (m 5)) (m 6)) (m 7)

theorem max8_greatest (m : Fin 8 → EReal) : IsGreatest (Set.range m) (max8 m) := by
  have two (s : Set EReal) (a b : EReal) (h : IsGreatest s a) : IsGreatest (insert b s) (max a b) := by
    rw [max_comm]; exact h.insert b
  have h := two _ _ (m 7) (two _ _ (m 6) (two _ _ (m 5) (two _ _ (m 4) (two _ _ (m 3) (two _ _ (m 2) (two _ _ (m 1) (isGreatest_singleton (a := m 0))))))))
  refine ⟨?_, ?_⟩
  · have := h.1
    simp only [Set.mem_insert_iff, Set.mem_singleton_iff] at this
    unfold max8
    rcases this with e | e | e | e | e | e | e | e <;> rw [e] <;> exact ⟨_, rfl⟩
  · rintro y ⟨k, rfl⟩
    refine h.2 ?_
    simp only [Set.mem_insert_iff, Set.mem_singleton_iff]
    fin_cases k <;> simp

end Cert.RowMath

end
-- ==== Proof.Payloads.lean ====
/- What a point computes, at an index, in the words of the row. -/
module

public import proofs.«01_k».proof.Proof.SpecBld
public import proofs.«01_k».proof.Proof.RowScale
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Cert.RowMath
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A summand of the gain at an index. -/
theorem gpart_at (g : Vec Ideal S1x128 .f32) (p : Fin 3) (a b : Fin 128) : (gpart g p (ix2 a b) : EReal) = gs (g (ix2 0 a)) p := by
  match p with
  | ⟨0, _⟩ =>
    show (k0_pay4 g (ix2 a b) : EReal) = g (ix2 0 a)
    unfold k0_pay4 k0_pay3
    set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  | ⟨1, _⟩ =>
    show (k0_pay8 g (ix2 a b) : EReal) = (g (ix2 0 a) : EReal) - g (ix2 0 a)
    unfold k0_pay8 k0_pay5 k0_pay4 k0_pay3
    set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  | ⟨2, _⟩ =>
    show (k0_pay13 (k0_pay9 g) (ix2 a b) : EReal) = (g (ix2 0 a) : EReal) - g (ix2 0 a) - ((g (ix2 0 a) : EReal) - g (ix2 0 a))
    unfold k0_pay13 k0_pay9 k0_pay8 k0_pay5 k0_pay4 k0_pay3
    set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]

/-- A sign at an index: the parity of the shared bits. -/
theorem parity_word : ∀ z : Fin 256, (IntOp.subi (1#32) (IntOp.muli (2#32) (IntOp.andi (IntOp.ctpop (BitVec.ofNat 32 z.val)) 1#32))).toInt
    = if pc 8 z % 2 = 0 then 1 else -1 := by decide +kernel

theorem sign_word (r s : Fin 256) : (IntOp.subi (1#32)
    (IntOp.muli (2#32) (IntOp.andi (IntOp.ctpop (IntOp.andi (BitVec.ofNat 32 r.val) (BitVec.ofNat 32 s.val))) 1#32))).toInt = sg 8 s r := by
  have e : IntOp.andi (BitVec.ofNat 32 r.val) (BitVec.ofNat 32 s.val) = BitVec.ofNat 32 (s.val &&& r.val) := by
    rw [Nat.and_comm, BitVec.ofNat_and]; rfl
  rw [e, sg_pc]
  exact parity_word ⟨s.val &&& r.val, lt_of_le_of_lt Nat.and_le_left s.2⟩

theorem sign_at (r s : Fin 256) : (k0_pay2 (F := Ideal) (ix2 r s) : EReal) = ((sg 8 s r : ℝ) : EReal) := by
  rw [← sign_word]
  unfold k0_pay2
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  rfl

/-- The butterfly's three levels at an index. -/
theorem stages_at (u : Fin 8 → FVec Ideal S384x256 .f32) (U : ℕ → EReal) (j : S384x256.Idx) (h : ∀ i, (u i j : EReal) = U i.val) (k : Fin 8) :
    (stage3 (stage2 (stage1 u)) k j : EReal) = hd 3 1 U k.val 0 := by
  have h0 := h 0; have h1 := h 1; have h2 := h 2; have h3 := h 3; have h4 := h 4; have h5 := h 5; have h6 := h 6; have h7 := h 7
  simp only [Fin.isValue, Fin.val_zero, Fin.val_one, Fin.val_two, Fin.coe_ofNat_eq_mod, Nat.reduceMod] at h0 h1 h2 h3 h4 h5 h6 h7
  match k with
  | ⟨0, _⟩ =>
    show (stage3 (stage2 (stage1 u)) 0 j : EReal) = hd 3 1 U 0 0
    rw [hd_succ 2, hd_succ 1, hd_succ 1, hd_succ 0, hd_succ 0, hd_succ 0, hd_succ 0]
    simp only [hd_zero]
    norm_num
    rw [← h0, ← h1, ← h2, ← h3, ← h4, ← h5, ← h6, ← h7]
    rfl
  | ⟨1, _⟩ =>
    show (stage3 (stage2 (stage1 u)) 1 j : EReal) = hd 3 1 U 1 0
    rw [hd_succ 2, hd_succ 1, hd_succ 1, hd_succ 0, hd_succ 0, hd_succ 0, hd_succ 0]
    simp only [hd_zero]
    norm_num
    rw [← h0, ← h1, ← h2, ← h3, ← h4, ← h5, ← h6, ← h7]
    rfl
  | ⟨2, _⟩ =>
    show (stage3 (stage2 (stage1 u)) 2 j : EReal) = hd 3 1 U 2 0
    rw [hd_succ 2, hd_succ 1, hd_succ 1, hd_succ 0, hd_succ 0, hd_succ 0, hd_succ 0]
    simp only [hd_zero]
    norm_num
    rw [← h0, ← h1, ← h2, ← h3, ← h4, ← h5, ← h6, ← h7]
    rfl
  | ⟨3, _⟩ =>
    show (stage3 (stage2 (stage1 u)) 3 j : EReal) = hd 3 1 U 3 0
    rw [hd_succ 2, hd_succ 1, hd_succ 1, hd_succ 0, hd_succ 0, hd_succ 0, hd_succ 0]
    simp only [hd_zero]
    norm_num
    rw [← h0, ← h1, ← h2, ← h3, ← h4, ← h5, ← h6, ← h7]
    rfl
  | ⟨4, _⟩ =>
    show (stage3 (stage2 (stage1 u)) 4 j : EReal) = hd 3 1 U 4 0
    rw [hd_succ 2, hd_succ 1, hd_succ 1, hd_succ 0, hd_succ 0, hd_succ 0, hd_succ 0]
    simp only [hd_zero]
    norm_num
    rw [← h0, ← h1, ← h2, ← h3, ← h4, ← h5, ← h6, ← h7]
    rfl
  | ⟨5, _⟩ =>
    show (stage3 (stage2 (stage1 u)) 5 j : EReal) = hd 3 1 U 5 0
    rw [hd_succ 2, hd_succ 1, hd_succ 1, hd_succ 0, hd_succ 0, hd_succ 0, hd_succ 0]
    simp only [hd_zero]
    norm_num
    rw [← h0, ← h1, ← h2, ← h3, ← h4, ← h5, ← h6, ← h7]
    rfl
  | ⟨6, _⟩ =>
    show (stage3 (stage2 (stage1 u)) 6 j : EReal) = hd 3 1 U 6 0
    rw [hd_succ 2, hd_succ 1, hd_succ 1, hd_succ 0, hd_succ 0, hd_succ 0, hd_succ 0]
    simp only [hd_zero]
    norm_num
    rw [← h0, ← h1, ← h2, ← h3, ← h4, ← h5, ← h6, ← h7]
    rfl
  | ⟨7, _⟩ =>
    show (stage3 (stage2 (stage1 u)) 7 j : EReal) = hd 3 1 U 7 0
    rw [hd_succ 2, hd_succ 1, hd_succ 1, hd_succ 0, hd_succ 0, hd_succ 0, hd_succ 0]
    simp only [hd_zero]
    norm_num
    rw [← h0, ← h1, ← h2, ← h3, ← h4, ← h5, ← h6, ← h7]
    rfl

theorem pay211_at (x : Vec Ideal S384x256 .bf16) (j : S384x256.Idx) : (k0_pay211 x j : EReal) = x j := by
  unfold k0_pay211
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]

section
variable (x g : ℕ → EReal) (xs : Fin 8 → Vec Ideal S384x256 .bf16) (gv : Fin 8 → Fin 3 → Vec Ideal S1x1x256x256 .bf16) (r : Fin 384)
  (hx : ∀ (i : Fin 8) (k : Fin 256), (xs i (ix2 r k) : EReal) = x (i.val * 256 + k.val))
  (hg : ∀ (i : Fin 8) (p : Fin 3) (k s : Fin 256), (gv i p (ix4 0 0 k s) : EReal) = gs (g (i.val * 256 + k.val)) p * ((sg 8 s k : ℝ) : EReal))
include hx hg

theorem pay212_at (i : Fin 8) (s : Fin 256) : (k0_pay212 (xs i) (gv i 0) (gv i 1) (gv i 2) (ix2 r s) : EReal)
    = ∑ k ∈ Finset.range 256, x (i.val * 256 + k) * (gs (g (i.val * 256 + k)) 0 * ((sg 8 s k : ℝ) : EReal))
    + ∑ k ∈ Finset.range 256, x (i.val * 256 + k) * (gs (g (i.val * 256 + k)) 1 * ((sg 8 s k : ℝ) : EReal))
    + ∑ k ∈ Finset.range 256, x (i.val * 256 + k) * (gs (g (i.val * 256 + k)) 2 * ((sg 8 s k : ℝ) : EReal)) := by
  simp only [Finset.sum_range, ← hx, ← hg]
  unfold k0_pay212
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  simp only [pay211_at]

theorem blocks_at (k : Fin 8) (s : Fin 256) : (blocks xs gv k (ix2 r s) : EReal) = vK x g k.val s.val :=
  stages_at _ _ _ (fun i => pay212_at x g xs gv r hx hg i s) k

omit hg in
theorem rc_at : (k0_pay260 (sqrs xs) (ix2 r 0) : EReal) = rc x := by
  unfold rc
  rw [ssq_eight]
  have h (i : Fin 8) (s : Fin 256) : (sqr (xs i) (ix2 r s) : EReal) = x (i.val * 256 + s.val) * x (i.val * 256 + s.val) := by
    rw [← hx]
    unfold sqr k0_pay213
    set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
    simp only [pay211_at]
  have e (s : Fin 256) : (sqrs xs (ix2 r s) : EReal) = (((((((x (0 * 256 + s) * x (0 * 256 + s) + x (1 * 256 + s) * x (1 * 256 + s)) + x (2 * 256 + s) * x (2 * 256 + s)) + x (3 * 256 + s) * x (3 * 256 + s)) + x (4 * 256 + s) * x (4 * 256 + s)) + x (5 * 256 + s) * x (5 * 256 + s)) + x (6 * 256 + s) * x (6 * 256 + s)) + x (7 * 256 + s) * x (7 * 256 + s)) := congrArg₂ (· + ·) (congrArg₂ (· + ·) (congrArg₂ (· + ·) (congrArg₂ (· + ·) (congrArg₂ (· + ·) (congrArg₂ (· + ·)
    (congrArg₂ (· + ·) (h 0 s) (h 1 s)) (h 2 s)) (h 3 s)) (h 4 s)) (h 5 s)) (h 6 s)) (h 7 s)
  rw [← Finset.sum_congr rfl (fun s _ => e s)]
  unfold k0_pay260
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]

/-- The largest magnitude of a row before its factor. -/
def MK (f : Fin 8 → FVec Ideal S384x256 .f32) (r : Fin 384) : EReal :=
  Finset.fold max (Ideal.ofBits .f32 0xFF800000#32) (fun s : Fin 256 => max8 fun k => mag (f k (ix2 r s) : EReal)) Finset.univ

theorem MK_greatest : IsGreatest {y | ∃ k < 8, ∃ s < 256, y = mag (vK x g k s)} (MK (blocks xs gv) r) := by
  unfold MK
  rw [lit_bot]
  have h := fold_greatest (Finset.univ : Finset (Fin 256)) (fun s : Fin 256 => max8 fun k => mag (blocks xs gv k (ix2 r s) : EReal)) ⟨0, Finset.mem_univ _⟩
  refine ⟨?_, ?_⟩
  · obtain ⟨s, _, e⟩ := h.1
    obtain ⟨k, e'⟩ := (max8_greatest fun k => mag (blocks xs gv k (ix2 r s) : EReal)).1
    exact ⟨k.val, k.2, s.val, s.2, by rw [e, ← e', ← blocks_at x g xs gv r hx hg]⟩
  · rintro y ⟨k, hk, s, hs, rfl⟩
    refine le_trans ?_ (h.2 ⟨⟨s, hs⟩, Finset.mem_univ _, rfl⟩)
    refine (max8_greatest fun k => mag (blocks xs gv k (ix2 r ⟨s, hs⟩) : EReal)).2 ⟨⟨k, hk⟩, ?_⟩
    show mag _ = _
    rw [blocks_at x g xs gv r hx hg]

omit hg in
theorem scl_at (f : Fin 8 → FVec Ideal S384x256 .f32) : (scl (sqrs xs) f (ix2 r 0) : EReal) = sc (MK f r * rc x) := by
  rw [← rc_at x xs r hx]
  unfold scl k0_pay261
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  rfl

omit hg in
theorem inv_at (f : Fin 8 → FVec Ideal S384x256 .f32) : (inv (sqrs xs) f (ix2 r 0) : EReal) = Ideal.div (rc x) (sc (MK f r * rc x)) := by
  rw [← scl_at x xs r hx, ← rc_at x xs r hx]
  unfold inv
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]

end

/-- The byte of a code. -/
def cbyte (z : EReal) : BitVec 8 := BitVec.setWidth 8 (Ideal.fptosi 32 (min (Ideal.ofBits .f32 0x40E00000#32) (max (Ideal.ofBits .f32 0xC0E00000#32)
  (Ideal.liftRound Ideal.roundHalfEven z))))

theorem pay271_at (f : FVec Ideal S384x256 .f32) (v : FVec Ideal S384x1 .f32) (r : Fin 384) (s : Fin 256) :
    k0_pay271 f v (ix2 r s) = cbyte ((f (ix2 r s) : EReal) * v (ix2 r 0)) := by
  obtain ⟨n, _, _, h1, h2⟩ := code ((f (ix2 r s) : EReal) * v (ix2 r 0))
  unfold cbyte
  rw [h2, ← h1]
  unfold k0_pay271 k0_pay270
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  rfl

theorem pay272_at (f : FVec Ideal S384x256 .f32) (v : FVec Ideal S384x1 .f32) (r : Fin 384) (s : Fin 256) :
    (k0_pay272 f v (ix2 r s) : EReal) = (((BitVec.signExtend 32 (cbyte ((f (ix2 r s) : EReal) * v (ix2 r 0)))).toInt : ℝ) : EReal) := by
  obtain ⟨n, l, u, h1, h2⟩ := code ((f (ix2 r s) : EReal) * v (ix2 r 0))
  unfold cbyte
  rw [h2, byte_code n l u, ← h1]
  unfold k0_pay272 k0_pay270
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]

section
variable (x g : ℕ → EReal) (xs : Fin 8 → Vec Ideal S384x256 .bf16) (gv : Fin 8 → Fin 3 → Vec Ideal S1x1x256x256 .bf16) (r : Fin 384)
  (hx : ∀ (i : Fin 8) (k : Fin 256), (xs i (ix2 r k) : EReal) = x (i.val * 256 + k.val))
  (hg : ∀ (i : Fin 8) (p : Fin 3) (k s : Fin 256), (gv i p (ix4 0 0 k s) : EReal) = gs (g (i.val * 256 + k.val)) p * ((sg 8 s k : ℝ) : EReal))
  (M : EReal) (hM : IsGreatest {y | ∃ q < 2048, y = mag (hR x g q)} M)
include hx hg hM

/-- The scale of a row is the mathematics' one, -/
theorem scale_row : (scl (sqrs xs) (blocks xs gv) (ix2 r 0) : EReal) = sc M := by
  rw [scl_at x xs r hx, (row x g _ _ (MK_greatest x g xs gv r hx hg) hM).1]

/-- and so are its quotients, -/
theorem quot_row (k : Fin 8) (s : Fin 256) :
    (blocks xs gv k (ix2 r s) : EReal) * inv (sqrs xs) (blocks xs gv) (ix2 r 0) = Ideal.div (hR x g (k.val * 256 + s.val)) (sc M) := by
  have h := row x g _ _ (MK_greatest x g xs gv r hx hg) hM
  rw [inv_at x xs r hx, h.1, blocks_at x g xs gv r hx hg]
  exact h.2 k.val k.2 s.val s.2

/-- its codes -/
theorem code_row (k : Fin 8) (s : Fin 256) :
    k0_pay271 (blocks xs gv k) (inv (sqrs xs) (blocks xs gv)) (ix2 r s) = cbyte (Ideal.div (hR x g (k.val * 256 + s.val)) (sc M)) := by
  rw [pay271_at, quot_row x g xs gv r hx hg M hM]

/-- and its products. -/
theorem prod_row (w : Fin 8 → Vec Ideal S256x256 .fp8e4m3) (ws : EReal) (j : Fin 256) (c W : ℕ → EReal)
    (hc : ∀ q < 2048, c q = (((BitVec.signExtend 32 (cbyte (Ideal.div (hR x g q) (sc M)))).toInt : ℝ) : EReal))
    (hw : ∀ (k : Fin 8) (t : Fin 256), (w k (ix2 t j) : EReal) = W (k.val * 256 + t.val)) :
    (prod (scl (sqrs xs) (blocks xs gv)) (fun k => k0_pay272 (blocks xs gv k) (inv (sqrs xs) (blocks xs gv))) w ws (ix2 r j) : EReal) = dot c W * sc M * ws := by
  have h (k : Fin 8) (t : Fin 256) : (k0_pay272 (blocks xs gv k) (inv (sqrs xs) (blocks xs gv)) (ix2 r t) : EReal) = c (k.val * 256 + t.val) := by
    rw [pay272_at, quot_row x g xs gv r hx hg M hM, hc _ (by omega)]
  have e (k : Fin 8) := Finset.sum_congr (rfl : (Finset.univ : Finset (Fin 256)) = Finset.univ) (fun t _ => congrArg₂ (fun a b : EReal => a * b) (h k t) (hw k t))
  rw [dot_eight, ← scale_row x g xs gv r hx hg M hM]
  refine Eq.trans ?_ (congrArg (fun z : EReal => z * _ * ws) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (congrArg₂ (fun a b : EReal => a + b)
      (e 0) (e 1)) (e 2)) (e 3)) (e 4)) (e 5)) (e 6)) (e 7)))
  unfold prod k0_pay291 k0_pay290
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]

end

end Cert.KernelIdeal.Own

end
-- ==== Proof.Weights.lean ====
/- The packed weights: what the point builds of a byte is the field less one. -/
module

public import proofs.«01_k».proof.Proof.SpecBld
public import proofs.«01_k».proof.Proof.RowScale
public import Idealize.ShloMosaic.Lib.Pointwise
public import Idealize.ShloMosaic.Lib.BitcastFour

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Cert.RowMath
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Four bytes of 0 or 1 in a word. -/
def four (a0 a1 a2 a3 : Bool) : BitVec 32 := BitVec.ofNat 32 (a0.toNat + 256 * a1.toNat + 65536 * a2.toNat + 16777216 * a3.toNat)

/-- One bit of every byte of a word. -/
def sbits (w n : BitVec 32) : BitVec 32 := IntOp.andi (IntOp.shrsi .vector w n) 16843009#32
/-- The word of four weights from their two bits. -/
def sword (lo hi : BitVec 32) : BitVec 32 :=
  IntOp.ori (IntOp.ori (IntOp.subi (IntOp.shli .vector (IntOp.xori lo 16843009#32) 6#32) (IntOp.shli .vector (IntOp.xori lo 16843009#32) 3#32))
    (IntOp.shli .vector (IntOp.andi (IntOp.xori lo 16843009#32) (IntOp.xori hi 4294967295#32)) 7#32)) (IntOp.shli .vector (IntOp.andi lo hi) 6#32)

/-- A weight's pattern. -/
def pat (l h : Bool) : BitVec 8 := if l then (if h then 0x40#8 else 0x00#8) else (if h then 0x38#8 else 0xB8#8)

theorem four_bit : ∀ (a0 a1 a2 a3 : Bool) (i : Fin 32), (four a0 a1 a2 a3).getLsbD i.val
    = if i.val = 0 then a0 else if i.val = 8 then a1 else if i.val = 16 then a2 else if i.val = 24 then a3 else false := by decide +kernel

theorem mask_bit : ∀ i : Fin 32, (16843009#32 : BitVec 32).getLsbD i.val = decide (i.val = 0 ∨ i.val = 8 ∨ i.val = 16 ∨ i.val = 24) := by decide +kernel

theorem sbits_eq (w : BitVec 32) (n : ℕ) (hn : n < 8) :
    sbits w (BitVec.ofNat 32 n) = four (w.getLsbD n) (w.getLsbD (8 + n)) (w.getLsbD (16 + n)) (w.getLsbD (24 + n)) := by
  apply BitVec.eq_of_getLsbD_eq
  intro i hi
  rw [four_bit _ _ _ _ ⟨i, hi⟩]
  unfold sbits IntOp.andi IntOp.shrsi
  have e : (BitVec.ofNat 32 n).toNat = n := by rw [BitVec.toNat_ofNat]; omega
  rw [if_pos (by rw [e]; omega), BitVec.getLsbD_and, mask_bit ⟨i, hi⟩, BitVec.sshiftRight', e, BitVec.getLsbD_sshiftRight]
  dsimp only
  by_cases h0 : i = 0
  · subst h0; simp; omega
  · by_cases h1 : i = 8
    · subst h1; simp [Nat.add_comm]; omega
    · by_cases h2 : i = 16
      · subst h2; simp [Nat.add_comm]; omega
      · by_cases h3 : i = 24
        · subst h3; simp [Nat.add_comm]; omega
        · simp [h0, h1, h2, h3]

theorem sword_pat : ∀ (l0 l1 l2 l3 h0 h1 h2 h3 : Bool), sword (four l0 l1 l2 l3) (four h0 h1 h2 h3)
    = BitVec.ofNat 32 ((pat l0 h0).toNat + 256 * (pat l1 h1).toNat + 65536 * (pat l2 h2).toNat + 16777216 * (pat l3 h3).toNat) := by decide +kernel

theorem four_pats : ∀ (l0 l1 l2 l3 h0 h1 h2 h3 : Bool) (t : Fin 4),
    (BitVec.ofNat 32 ((pat l0 h0).toNat + 256 * (pat l1 h1).toNat + 65536 * (pat l2 h2).toNat + 16777216 * (pat l3 h3).toNat)).extractLsb' (8 * t.val) 8
      = ![pat l0 h0, pat l1 h1, pat l2 h2, pat l3 h3] t := by decide +kernel

/-- A byte of the word, of the same byte of the packed one. -/
theorem word_byte (w : BitVec 32) (n m : ℕ) (hn : n < 8) (hm : m < 8) (t : Fin 4) :
    (sword (sbits w (BitVec.ofNat 32 n)) (sbits w (BitVec.ofNat 32 m))).extractLsb' (8 * t.val) 8 = pat (w.getLsbD (8 * t.val + n)) (w.getLsbD (8 * t.val + m)) := by
  rw [sbits_eq w n hn, sbits_eq w m hm, sword_pat, four_pats]
  match t with
  | ⟨0, _⟩ => simp
  | ⟨1, _⟩ => simp
  | ⟨2, _⟩ => simp
  | ⟨3, _⟩ => simp

theorem pat_value (l h : Bool) : Ideal.e4m3fn (pat l h) = ((((((l.toNat + 2 * h.toNat : ℕ) : ℤ) - 1 : ℤ) : ℝ)) : EReal) := by
  cases l <;> cases h <;> simp [pat, Ideal.e4m3fn, -EReal.coe_mul] <;> norm_num

theorem wv_bits : ∀ (b : Fin 256) (f : Fin 4), wv (BitVec.ofFin (w := 8) b) f.val
    = (((BitVec.ofFin (w := 8) b).getLsbD (2 * f.val)).toNat + 2 * ((BitVec.ofFin (w := 8) b).getLsbD (2 * f.val + 1)).toNat : ℕ) - 1 := by decide +kernel

/-- A weight at an index. -/
theorem wfield_at (w : Vec Ideal S512x1536 .i8) (f : Fin 4) (k : Fin 512) (n : Fin 1536) :
    (wfield w f (ix2 k n) : EReal) = ((wv (w (ix2 k n)) f.val : ℝ) : EReal) := by
  have hk := k.isLt
  have hf := f.isLt
  set W : BitVec 32 := k0_pay197 w (ix2 ⟨k.val / 4, by omega⟩ n) with hW
  have hb (m : ℕ) (hm : m < 8) : W.getLsbD (8 * (k.val % 4) + m) = (w (ix2 k n) : BitVec 8).getLsbD m := by
    rw [hW]
    unfold k0_pay197
    refine (bitcast_8_32_getLsbD_ix2 w bitcasts_S512x1536_w8_S128x1536_w32 ⟨k.val / 4, by omega⟩ n (8 * (k.val % 4) + m) (by omega) k ?_).trans ?_
    · show k.val = 4 * (k.val / 4) + _; omega
    · congr 1; omega
  have hs : (bitcast S512x1536 8 (wword (wbits (k0_pay197 w) (![0#32, 2#32, 4#32, 6#32] f)) (wbits (k0_pay197 w) (![1#32, 3#32, 5#32, 7#32] f)))
      bitcasts_S128x1536_w32_S512x1536_w8) (ix2 k n) = pat ((w (ix2 k n) : BitVec 8).getLsbD (2 * f.val)) ((w (ix2 k n) : BitVec 8).getLsbD (2 * f.val + 1)) := by
    rw [← hb _ (by omega), ← hb _ (by omega)]
    have hh := word_byte W (2 * f.val) (2 * f.val + 1) (by omega) (by omega) ⟨k.val % 4, by omega⟩
    dsimp only at hh
    rw [← hh]
    apply BitVec.eq_of_getLsbD_eq
    intro q hq
    have hrow : Shape.row S512x1536 (ix2 k n) = k.val := rfl
    rw [bitcast_getLsbD _ _ _ _ hq (by decide), BitVec.getLsbD_extractLsb']
    have ei : bitcasts_S128x1536_w32_S512x1536_w8.srcIdx (ix2 k n) ((Shape.row S512x1536 (ix2 k n) * 8 + q) / 32) (fun a ha =>
        (Nat.div_lt_iff_lt_mul (by decide)).2 (bitcasts_S128x1536_w32_S512x1536_w8.pos_lt (ix2 k n) q hq a ha)) = ix2 ⟨k.val / 4, by omega⟩ n := by
      funext a
      match a with
      | ⟨0, _⟩ => exact Fin.ext ((bitcasts_S128x1536_w32_S512x1536_w8.srcIdx_row _ _ _ ⟨0, Nat.zero_lt_two⟩ rfl).trans (by rw [hrow]; show _ = k.val / 4; omega))
      | ⟨1, _⟩ => exact Fin.ext (bitcasts_S128x1536_w32_S512x1536_w8.srcIdx_other _ _ _ ⟨1, Nat.one_lt_two⟩ (by show ¬ 1 + 2 = 2; omega))
    rw [ei, hrow]
    have e1 : (k.val * 8 + q) % 32 = 8 * (k.val % 4) + q := by omega
    rw [e1]
    simp only [hq, decide_true, Bool.true_and]
    congr 1
    match f with
    | ⟨0, _⟩ => rfl
    | ⟨1, _⟩ => rfl
    | ⟨2, _⟩ => rfl
    | ⟨3, _⟩ => rfl
  have hv := wv_bits (w (ix2 k n) : BitVec 8).toFin f
  have h2 : (wfield w f (ix2 k n) : EReal) = Ideal.e4m3fn (pat ((w (ix2 k n) : BitVec 8).getLsbD (2 * f.val)) ((w (ix2 k n) : BitVec 8).getLsbD (2 * f.val + 1))) := by
    rw [← hs]
    unfold wfield
    set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
    rfl
  rw [h2, pat_value]
  congr 2
  exact hv.symm

end Cert.KernelIdeal.Own

end
-- ==== Proof.Inputs.lean ====
/- What a point finds: its rows, and the scratch that the first point leaves. -/
module

public import proofs.«01_k».proof.Proof.Payloads
public import proofs.«01_k».proof.Proof.Weights
public import Idealize.ShloMosaic.Lib.Claim
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Cert.RowMath
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem jx0 : ∀ t : Fin cfg0.N, win0_0.index t (0 : Fin 2) = t.val ∧ win0_0.index t (1 : Fin 2) = 0 := (by decide +kernel : ∀ t : Fin grid0.N, _)
theorem jx1 : ∀ t : Fin cfg0.N, win0_1.index t (0 : Fin 2) = 0 ∧ win0_1.index t (1 : Fin 2) = 0 := (by decide +kernel : ∀ t : Fin grid0.N, _)
theorem jx2 : ∀ t : Fin cfg0.N, win0_2.index t (0 : Fin 2) = 0 ∧ win0_2.index t (1 : Fin 2) = 0 := (by decide +kernel : ∀ t : Fin grid0.N, _)

theorem gquart_at (g : Vec Ideal S1x128 .f32) (p : Fin 3) (rh ch : Fin 2) (a b : Fin 128) : (gquart g p rh ch (ix4 0 0 a b) : EReal)
    = gs (g (ix2 0 a)) p * ((sg 8 (128 * ch.val + b.val) (128 * rh.val + a.val) : ℝ) : EReal) := by
  rw [← gpart_at g p a 0]
  have h := sign_at ⟨128 * rh.val + a.val, by omega⟩ ⟨128 * ch.val + b.val, by omega⟩
  dsimp only at h
  rw [← h, gpart_at, ← gpart_at g p a b]
  unfold gquart
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]

variable (m : (ℓ : Loc nD τ sig) → Buf (Elt Ideal) ℓ) (c : Dev nD) (t : Fin cfg0.N)

/-- The row, the gains and a column's bytes, by their numbers. -/
def xK (b : Fin 5) (s : Fin 384) : ℕ → EReal := ext fun a => (m ((c.tc : Thread nD τ).loc main_arg0) : S5x384x2048.Idx → EReal) (ix3 b s a)
def gK : ℕ → EReal := ext fun a => (m ((c.tc : Thread nD τ).loc main_arg1) : S2048.Idx → EReal) (ix1 a)
def bK (n : Fin 1536) (k : Fin 512) : BitVec 8 := (m ((c.tc : Thread nD τ).loc main_arg2) : S512x1536.Idx → BitVec 8) (ix2 k n)

abbrev pt (t : Fin cfg0.N) : Fin 5 := ⟨t.val, lt_of_lt_of_eq t.isLt N_0⟩

theorem iblk0_at (r : Fin 384) (k : Fin 2048) : (iblk m c 0 t : Vec Ideal S384x2048 .bf16) (ix2 r k) = xK m c (pt t) r k.val := by
  unfold xK
  rw [ext_of _ _ k.2]
  unfold iblk
  show V m c main_v0 _ = _
  entry_read
  have e : ((View.whole main_v0).slice ((win0 0).rect t)).emb (ix2 r k) = ix2 (⟨t.val * 384 + r.val, by have := (pt t).2; have := r.2; dsimp only at *; omega⟩ : Fin 1920) k := by
    obtain ⟨e0, e1⟩ := jx0 t
    funext a
    match a with
    | ⟨0, _⟩ => exact Fin.ext (show win0_0.index t (0 : Fin 2) * 384 + 1 * r.val = t.val * 384 + r.val by omega)
    | ⟨1, _⟩ => exact Fin.ext (show win0_0.index t (1 : Fin 2) * 2048 + 1 * k.val = k.val by omega)
  rw [e]
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  rfl
theorem iblk1_at (k : Fin 2048) : (iblk m c 1 t : Vec Ideal S1x2048 .f32) (ix2 0 k) = gK m c k.val := by
  unfold gK
  rw [ext_of _ _ k.2]
  unfold iblk
  show V m c main_v1 _ = _
  entry_read
  have e : ((View.whole main_v1).slice ((win0 1).rect t)).emb (ix2 0 k) = ix2 (0 : Fin 1) k := by
    obtain ⟨e0, e1⟩ := jx1 t
    funext a
    match a with
    | ⟨0, _⟩ => exact Fin.ext (show win0_1.index t (0 : Fin 2) * 1 + 1 * 0 = 0 by omega)
    | ⟨1, _⟩ => exact Fin.ext (show win0_1.index t (1 : Fin 2) * 2048 + 1 * k.val = k.val by omega)
  rw [e]
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
theorem iblk2_at (k : Fin 512) (n : Fin 1536) : (iblk m c 2 t : Vec Ideal S512x1536 .i8) (ix2 k n) = bK m c n k := by
  unfold iblk
  show V m c main_arg2 _ = _
  rw [V_main_arg2]
  have e : ((cfg0.win 2).blk t).view.emb (ix2 k n) = ix2 k n := by
    obtain ⟨e0, e1⟩ := jx2 t
    funext a
    match a with
    | ⟨0, _⟩ => exact Fin.ext (show win0_2.index t (0 : Fin 2) * 512 + 1 * k.val = k.val by omega)
    | ⟨1, _⟩ => exact Fin.ext (show win0_2.index t (1 : Fin 2) * 1536 + 1 * n.val = n.val by omega)
  rw [e]
  rfl
theorem rds_at : rds t (iblk m c 3 t : Vec Ideal S1 .f32) = (m ((c.tc : Thread nD τ).loc main_arg3) : S1.Idx → EReal) (ix1 0) := by
  unfold rds
  simp only [View.readAt_eq_ld, (hs0_3 t).read_unread]
  have h : ∀ j : S1.Idx, j = ix1 0 := fun j => by idx_vars j; rw [Subsingleton.elim j0 0]
  refine (View.ld_unit_apply_of (iblk m c 3 t : Vec Ideal S1 .f32) ![0] S1.size inb_S1_S1_0 _ (ix1 0) (fun a => ?_)).trans ?_
  · match a with | ⟨0, _⟩ => rfl
  unfold iblk
  show V m c main_arg3 _ = _
  rw [V_main_arg3]
  exact congrArg (m ((c.tc : Thread nD τ).loc main_arg3)) (h _)

/-- The scratch after the first point, -/
theorem ghOut_at (i : Fin 8) (p : Fin 3) (r s : Fin 256) : (ghOut m c (ix4 i p r s) : EReal) = gs (gK m c (i.val * 256 + r.val)) p * ((sg 8 s r : ℝ) : EReal) := by
  unfold ghOut
  rw [View.read_writes_junk_eq_canon]
  refine View.canon_apply_of_pieces (Val := Elt Ideal) (S := S8x3x256x256) (e := .bf16) (fun y : S8x3x256x256.Idx => (gs (gK m c ((y 0).val * 256 + (y 2).val)) (y 1) * ((sg 8 (y 3).val (y 2).val : ℝ) : EReal) : EReal)) _ ?_ (ix4 i p r s)
    (cover_gh c t0 _ _ _)
  rw [g_pieces]
  intro pc hpc x
  obtain ⟨⟨i, rh, p, ch⟩, _, rfl⟩ := List.mem_map.mp hpc
  clear hpc
  revert x
  show ∀ x : S1x1x128x128.Idx, (gquart (rdn t0 (iblk m c 1 t0) i rh) p rh ch x : EReal) = _
  intro x
  idx_vars x
  obtain rfl : x0 = 0 := Subsingleton.elim _ _
  obtain rfl : x1 = 0 := Subsingleton.elim _ _
  rw [gquart_at, rdn_eq]
  have hl : ldn (iblk m c 1 t0 : Vec Ideal S1x2048 .f32) i rh (ix2 0 x2) = gK m c (i.val * 256 + (128 * rh.val + x2.val)) := by
    unfold ldn
    have h2 := x2.2; have h1 := rh.2; have h0 := i.2
    refine (View.ld_unit_apply_of (iblk m c 1 t0 : Vec Ideal S1x2048 .f32) _ _ _ _ (ix2 0 ⟨i.val * 256 + (128 * rh.val + x2.val), by omega⟩) (fun a => ?_)).trans ?_
    · match a with
      | ⟨0, _⟩ => rfl
      | ⟨1, _⟩ => show i.val * 256 + (128 * rh.val + x2.val) = 128 * (2 * i.val + rh.val) + x2.val; omega
    exact iblk1_at m c t0 _
  rw [hl]
  have e (off : Fin 4 → ℕ) (inb) (x : S1x1x128x128.Idx) (a : Fin 4) : ((Rect.unit (s := S8x3x256x256) off S1x1x128x128.size inb).emb x a).val = off a + (x a).val := by
    show off a + 1 * (x a).val = _; omega
  have key (z : S8x3x256x256.Idx) (h0 : (z 0).val = i.val + 0) (h1 : (z 1).val = p.val + 0) (h2 : (z 2).val = 128 * rh.val + x2.val) (h3 : (z 3).val = 128 * ch.val + x3.val) :
      gs (gK m c (i.val * 256 + (128 * rh.val + x2.val))) p * ((sg 8 (128 * ch.val + x3.val) (128 * rh.val + x2.val) : ℝ) : EReal)
        = gs (gK m c ((z 0).val * 256 + (z 2).val)) (z 1) * ((sg 8 (z 3).val (z 2).val : ℝ) : EReal) := by
    rw [h0, h2, h3, show z 1 = p from Fin.ext h1, Nat.add_zero]
  exact key _ (e _ (inbq i p rh ch) (ix4 0 0 x2 x3) 0) (e _ (inbq i p rh ch) (ix4 0 0 x2 x3) 1) (e _ (inbq i p rh ch) (ix4 0 0 x2 x3) 2) (e _ (inbq i p rh ch) (ix4 0 0 x2 x3) 3)

/-- and of the weights. -/
theorem wOut_at (k : Fin 2048) (n : Fin 1536) : (wOut m c (ix2 k n) : EReal) = wt (bK m c n) k.val := by
  unfold wOut
  rw [View.read_writes_junk_eq_canon]
  refine View.canon_apply_of_pieces (Val := Elt Ideal) (S := S2048x1536) (e := .fp8e4m3) (fun y : S2048x1536.Idx => (wt (bK m c (y 1)) (y 0).val : EReal)) _ ?_ (ix2 k n) (cover_w c t0 _ _ _)
  rw [w_pieces]
  intro pc hpc x
  obtain ⟨f, _, rfl⟩ := List.mem_map.mp hpc
  clear hpc
  revert x
  show ∀ x : S512x1536.Idx, (wfield (rdp t0 (iblk m c 2 t0)) f x : EReal) = _
  intro x
  idx_vars x
  rw [wfield_at, rdp_eq, iblk2_at]
  have e (off : Fin 2 → ℕ) (inb) (x : S512x1536.Idx) (a : Fin 2) : ((Rect.unit (s := S2048x1536) off S512x1536.size inb).emb x a).val = off a + (x a).val := by
    show off a + 1 * (x a).val = _; omega
  have f0 : ((Rect.unit (s := S2048x1536) _ S512x1536.size (inbf f)).emb (ix2 x0 x1) 0).val = 512 * f.val + x0.val := e _ (inbf f) (ix2 x0 x1) 0
  have f1 : ((Rect.unit (s := S2048x1536) _ S512x1536.size (inbf f)).emb (ix2 x0 x1) 1).val = 0 + x1.val := e _ (inbf f) (ix2 x0 x1) 1
  show _ = wt (bK m c ((Rect.unit (s := S2048x1536) _ S512x1536.size (inbf f)).emb (ix2 x0 x1) 1)) ((Rect.unit (s := S2048x1536) _ S512x1536.size (inbf f)).emb (ix2 x0 x1) 0).val
  rw [f0, show ((Rect.unit (s := S2048x1536) _ S512x1536.size (inbf f)).emb (ix2 x0 x1) 1) = x1 from Fin.ext (f1.trans (Nat.zero_add _))]
  unfold wt
  have h0 := x0.2
  have g0 : (⟨(512 * f.val + x0.val) % 512, Nat.mod_lt _ (by norm_num)⟩ : Fin 512) = x0 := Fin.ext (by show (512 * f.val + x0.val) % 512 = x0.val; omega)
  rw [g0, show (512 * f.val + x0.val) / 512 = f.val by omega]

end Cert.KernelIdeal.Own

end
-- ==== Proof.KValue.lean ====
/- The results of the kernel, element by element. -/
module

public import proofs.«01_k».proof.Proof.Inputs

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Cert.RowMath
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD) (t : Fin cfg0.N)

/-- What a point's loads find. -/
theorem rdx_at (k : Fin 8) (r : Fin 384) (s : Fin 256) : (rdx t (iblk m c 0 t : Vec Ideal S384x2048 .bf16) k (ix2 r s) : EReal) = xK m c (pt t) r (k.val * 256 + s.val) := by
  rw [rdx_eq]
  unfold ldx
  refine (View.ld_unit_apply_of (iblk m c 0 t : Vec Ideal S384x2048 .bf16) _ _ _ _ (ix2 r ⟨k.val * 256 + s.val, by omega⟩) (fun a => ?_)).trans (iblk0_at m c t r _)
  match a with
  | ⟨0, _⟩ => exact (Nat.zero_add _).symm
  | ⟨1, _⟩ => show k.val * 256 + s.val = 256 * k.val + s.val; omega
theorem rdg_at (i : Fin 8) (p : Fin 3) (k s : Fin 256) : (rdg (ghOut m c) i p (ix4 0 0 k s) : EReal) = gs (gK m c (i.val * 256 + k.val)) p * ((sg 8 s k : ℝ) : EReal) := by
  rw [rdg_eq]
  unfold ldg
  refine (View.ld_unit_apply_of (ghOut m c) _ _ _ _ (ix4 i p k s) (fun a => ?_)).trans (ghOut_at m c i p k s)
  match a with
  | ⟨0, _⟩ => rfl
  | ⟨1, _⟩ => rfl
  | ⟨2, _⟩ => exact (Nat.zero_add _).symm
  | ⟨3, _⟩ => exact (Nat.zero_add _).symm
theorem rdw_at (n : Fin 6) (k : Fin 8) (s j : Fin 256) : (rdw (wOut m c) n k (ix2 s j) : EReal) = wt (bK m c ⟨256 * n.val + j.val, by omega⟩) (k.val * 256 + s.val) := by
  rw [rdw_eq]
  unfold ldw
  refine (View.ld_unit_apply_of (wOut m c) _ _ _ _ (ix2 ⟨k.val * 256 + s.val, by omega⟩ ⟨256 * n.val + j.val, by omega⟩) (fun a => ?_)).trans (wOut_at m c _ _)
  match a with
  | ⟨0, _⟩ => show k.val * 256 + s.val = 256 * k.val + s.val; omega
  | ⟨1, _⟩ => rfl

section
variable (M : Fin 384 → EReal) (hM : ∀ r, IsGreatest {y | ∃ q < 2048, y = mag (hR (xK m c (pt t) r) (gK m c) q)} (M r))
include hM

/-- The codes a point leaves, -/
theorem cOut_at (r : Fin 384) (q : Fin 2048) : (cOut m c t (ix2 r q) : BitVec 8) = cbyte (Ideal.div (hR (xK m c (pt t) r) (gK m c) q.val) (sc (M r))) := by
  unfold cOut
  rw [View.read_writes_junk_eq_canon]
  have e (off : Fin 2 → ℕ) (inb) (x : S384x256.Idx) (a : Fin 2) : ((Rect.unit (s := S384x2048) off S384x256.size inb).emb x a).val = off a + (x a).val := by
    show off a + 1 * (x a).val = _; omega
  refine View.canon_apply_of_pieces (Val := Elt Ideal) (S := S384x2048) (e := .i8)
    (fun y : S384x2048.Idx => (cbyte (Ideal.div (hR (xK m c (pt t) (y 0)) (gK m c) (y 1).val) (sc (M (y 0)))) : BitVec 8)) _ ?_ (ix2 r q)
    (cover_c c t _ _ _ _ _)
  rw [c_pieces]
  intro pc hpc x
  obtain ⟨k, _, rfl⟩ := List.mem_map.mp hpc
  clear hpc
  revert x
  show ∀ x : S384x256.Idx, (k0_pay271 (blocks (rdx t (iblk m c 0 t)) (rdg (ghOut m c)) k) (inv (sqrs (rdx t (iblk m c 0 t))) (blocks (rdx t (iblk m c 0 t)) (rdg (ghOut m c)))) x : BitVec 8) = _
  intro x
  idx_vars x
  rw [code_row (xK m c (pt t) x0) (gK m c) _ _ x0 (fun i k => rdx_at m c t i x0 k) (fun i p k s => rdg_at m c i p k s) (M x0) (hM x0) k x1]
  have key (z : S384x2048.Idx) (h0 : (z 0).val = 0 + x0.val) (h1 : (z 1).val = 256 * k.val + x1.val) :
      cbyte (Ideal.div (hR (xK m c (pt t) x0) (gK m c) (k.val * 256 + x1.val)) (sc (M x0))) = cbyte (Ideal.div (hR (xK m c (pt t) (z 0)) (gK m c) (z 1).val) (sc (M (z 0)))) := by
    rw [h1, show z 0 = x0 from Fin.ext (h0.trans (Nat.zero_add _)), Nat.mul_comm]
  exact key _ (e _ (inbx k) (ix2 x0 x1) 0) (e _ (inbx k) (ix2 x0 x1) 1)

/-- the products -/
theorem yOut_at (C : Fin 384 → ℕ → EReal) (hC : ∀ r, ∀ q < 2048, C r q = (((BitVec.signExtend 32 (cbyte (Ideal.div (hR (xK m c (pt t) r) (gK m c) q) (sc (M r))))).toInt : ℝ) : EReal))
    (r : Fin 384) (n : Fin 1536) : (yOut m c t (ix2 r n) : EReal) = dot (C r) (wt (bK m c n)) * sc (M r) * (m ((c.tc : Thread nD τ).loc main_arg3) : S1.Idx → EReal) (ix1 0) := by
  unfold yOut
  rw [View.read_writes_junk_eq_canon]
  have e (off : Fin 2 → ℕ) (inb) (x : S384x256.Idx) (a : Fin 2) : ((Rect.unit (s := S384x1536) off S384x256.size inb).emb x a).val = off a + (x a).val := by
    show off a + 1 * (x a).val = _; omega
  refine View.canon_apply_of_pieces (Val := Elt Ideal) (S := S384x1536) (e := .bf16)
    (fun y : S384x1536.Idx => (dot (C (y 0)) (wt (bK m c (y 1))) * sc (M (y 0)) * (m ((c.tc : Thread nD τ).loc main_arg3) : S1.Idx → EReal) (ix1 0) : EReal)) _ ?_ (ix2 r n)
    (cover_y c t _ _ _ _ _)
  rw [y_pieces]
  intro pc hpc x
  obtain ⟨k, _, rfl⟩ := List.mem_map.mp hpc
  clear hpc
  revert x
  show ∀ x : S384x256.Idx, (prod (scl (sqrs (rdx t (iblk m c 0 t))) (blocks (rdx t (iblk m c 0 t)) (rdg (ghOut m c))))
    (fun k => k0_pay272 (blocks (rdx t (iblk m c 0 t)) (rdg (ghOut m c)) k) (inv (sqrs (rdx t (iblk m c 0 t))) (blocks (rdx t (iblk m c 0 t)) (rdg (ghOut m c)))))
    (rdw (wOut m c) k) (rds t (iblk m c 3 t)) x : EReal) = _
  intro x
  idx_vars x
  rw [prod_row (xK m c (pt t) x0) (gK m c) _ _ x0 (fun i k => rdx_at m c t i x0 k) (fun i p k s => rdg_at m c i p k s) (M x0) (hM x0) (rdw (wOut m c) k) _ x1 (C x0) (wt (bK m c ⟨256 * k.val + x1.val, by omega⟩))
    (hC x0) (fun i s => rdw_at m c k i s x1), rds_at]
  have key (z : S384x1536.Idx) (h0 : (z 0).val = 0 + x0.val) (h1 : (z 1).val = 256 * k.val + x1.val) (w : EReal) :
      dot (C x0) (wt (bK m c ⟨256 * k.val + x1.val, by omega⟩)) * sc (M x0) * w = dot (C (z 0)) (wt (bK m c (z 1))) * sc (M (z 0)) * w := by
    rw [show z 0 = x0 from Fin.ext (h0.trans (Nat.zero_add _)), show z 1 = ⟨256 * k.val + x1.val, by omega⟩ from Fin.ext h1]
    rfl
  exact key _ (e _ (inby k) (ix2 x0 x1) 0) (e _ (inby k) (ix2 x0 x1) 1) _

/-- and the scales. -/
theorem sOut_at (r : Fin 384) : (sOut m c t (ix2 (pt t) r) : EReal) = sc (M r) := by
  unfold sOut
  rw [s_pieces]
  have hx : ∀ a, ((ix2 (pt t) r : S5x384.Idx) a).val = (![t.val, 0] : Fin 2 → ℕ) a + ((ix2 (0 : Fin 1) r : S1x384.Idx) a).val := fun a => match a with
    | ⟨0, _⟩ => (Nat.add_zero _).symm
    | ⟨1, _⟩ => (Nat.zero_add _).symm
  refine (View.read_writes_cons_unit_of_mem (Val := Elt Ideal) VO0_6 (VO0_6.junk (Val := Elt Ideal)) (k0_off1_inb (grid0.coords t)) _ [] (ix2 (pt t) r) (ix2 (0 : Fin 1) r) (off1_eq t) hx).trans ?_
  refine Eq.trans ?_ (scale_row (xK m c (pt t) r) (gK m c) _ _ r (fun i k => rdx_at m c t i r k) (fun i p k s => rdg_at m c i p k s) (M r) (hM r))
  generalize scl (F := Ideal) (sqrs (rdx t (iblk m c 0 t))) (blocks (rdx t (iblk m c 0 t)) (rdg (ghOut m c))) = v
  unfold k0_pay289
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
end

end Cert.KernelIdeal.Own

end
-- ==== Proof.Final.lean ====
/- The results' arrays after the run, element by element, and the frame. -/
module

public import proofs.«01_k».proof.Proof.Run
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point whose block holds row `i`, and the row's place in the block. -/
def rowPt (i : ℕ) (h : i < 1920) : Fin cfg0.N := ⟨i / 384, by rw [show cfg0.N = 5 from N_0]; omega⟩
def rowIn (i : ℕ) : Fin 384 := ⟨i % 384, Nat.mod_lt _ (by decide)⟩

/-- The arrays of the results after the run. -/
def G4 (c : Dev nD) : Buf (Elt F) ((c : Thread nD τ).loc main_v2_0) := fun (i : S1920x1536.Idx) =>
  yOut m c (rowPt (i 0).val (i 0).isLt) (ix2 (rowIn (i 0).val) (i 1))
def G5 (c : Dev nD) : Buf (Elt F) ((c : Thread nD τ).loc main_v2_1) := fun (i : S1920x2048.Idx) =>
  cOut m c (rowPt (i 0).val (i 0).isLt) (ix2 (rowIn (i 0).val) (i 1))
def G6 (c : Dev nD) : Buf (Elt F) ((c : Thread nD τ).loc main_v2_2) := fun (i : S5x384.Idx) =>
  sOut m c ⟨(i 0).val, by rw [show cfg0.N = 5 from N_0]; exact (i 0).isLt⟩ i

theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem final4 (c : Dev nD) (D : Dat τ (Elt F) Unit ℕ (UR sig nD τ) ℕ cfg0 c) (h : ∀ t, D.after 4 t = yOut m c t) : D.arrAt 4 cfg0.N = G4 m c := by
  refine D.arrAt_eq_of_covers 4 _ (by decide +kernel) fun t hf y => ?_
  rw [h]
  obtain ⟨e0, e1⟩ := idx4 t
  have hy0 : (y 0).val < 384 := (y 0).isLt
  have hy1 : (y 1).val < 1536 := (y 1).isLt
  have hb0 : (((cfg0.win 4).blk t).view.emb y 0).val = win0_4.index t (0 : Fin 2) * 384 + 1 * (y 0).val := rfl
  have hb1 : (((cfg0.win 4).blk t).view.emb y 1).val = win0_4.index t (1 : Fin 2) * 1536 + 1 * (y 1).val := rfl
  show yOut m c t ((cfg0.win 4).xinj (grid0.coords t) y) = yOut m c (rowPt (((cfg0.win 4).blk t).view.emb y 0).val _) (ix2 (rowIn (((cfg0.win 4).blk t).view.emb y 0).val) (((cfg0.win 4).blk t).view.emb y 1))
  congr 1
  · apply Fin.ext
    show t.val = (((cfg0.win 4).blk t).view.emb y 0).val / 384
    rw [hb0, e0]; omega
  · funext a; apply Fin.ext
    match a with
    | ⟨0, _⟩ => show (y 0).val = (((cfg0.win 4).blk t).view.emb y 0).val % 384; rw [hb0]; omega
    | ⟨1, _⟩ => show (y 1).val = (((cfg0.win 4).blk t).view.emb y 1).val; rw [hb1, e1]; omega

theorem final5 (c : Dev nD) (D : Dat τ (Elt F) Unit ℕ (UR sig nD τ) ℕ cfg0 c) (h : ∀ t, D.after 5 t = cOut m c t) : D.arrAt 5 cfg0.N = G5 m c := by
  refine D.arrAt_eq_of_covers 5 _ (by decide +kernel) fun t hf y => ?_
  rw [h]
  obtain ⟨e0, e1⟩ := idx5 t
  have hy0 : (y 0).val < 384 := (y 0).isLt
  have hy1 : (y 1).val < 2048 := (y 1).isLt
  have hb0 : (((cfg0.win 5).blk t).view.emb y 0).val = win0_5.index t (0 : Fin 2) * 384 + 1 * (y 0).val := rfl
  have hb1 : (((cfg0.win 5).blk t).view.emb y 1).val = win0_5.index t (1 : Fin 2) * 2048 + 1 * (y 1).val := rfl
  show cOut m c t ((cfg0.win 5).xinj (grid0.coords t) y) = cOut m c (rowPt (((cfg0.win 5).blk t).view.emb y 0).val _) (ix2 (rowIn (((cfg0.win 5).blk t).view.emb y 0).val) (((cfg0.win 5).blk t).view.emb y 1))
  congr 1
  · apply Fin.ext
    show t.val = (((cfg0.win 5).blk t).view.emb y 0).val / 384
    rw [hb0, e0]; omega
  · funext a; apply Fin.ext
    match a with
    | ⟨0, _⟩ => show (y 0).val = (((cfg0.win 5).blk t).view.emb y 0).val % 384; rw [hb0]; omega
    | ⟨1, _⟩ => show (y 1).val = (((cfg0.win 5).blk t).view.emb y 1).val; rw [hb1, e1]; omega

/-- The last point. -/
abbrev t4 : Fin cfg0.N := ⟨4, by rw [show cfg0.N = 5 from N_0]; decide⟩

theorem final6 (c : Dev nD) (D : Dat τ (Elt F) Unit ℕ (UR sig nD τ) ℕ cfg0 c)
    (h : ∀ (s : Fin cfg0.N) (y : S5x384.Idx), (y 0).val = s.val → D.after 6 t4 y = sOut m c s y) : D.arrAt 6 cfg0.N = G6 m c := by
  funext i
  refine (D.arrAt_emb_eq_after_last 6 t4 (by decide +kernel) i).trans ?_
  exact h ⟨(i 0).val, _⟩ i rfl

/-- The run, read: the results as their points leave them, the arguments unchanged, every counter at zero. -/
theorem run : θ_run defs (onTc (τ := τ) (main (F := F))) ⟨m, fun _ => 0, ρ⟩ fun r => (∀ c : Dev nD,
      r.2.mem ((c.tc : Thread nD τ).loc main_v2_0) = G4 m c
      ∧ r.2.mem ((c.tc : Thread nD τ).loc main_v2_1) = G5 m c
      ∧ r.2.mem ((c.tc : Thread nD τ).loc main_v2_2) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => by
    obtain ⟨after, hL, hA⟩ := Pipeline.RDat.FramePost.exists_exact h.1 c
    have hN : cfg0.N = 5 := N_0
    refine ⟨(hA 4).trans (final4 m c _ fun t => (dats m c).toRRel_leaves (fgt := fgt) (Rl := Rl m c) (w := 4) rfl (hL 4 t (flush0_4 t))),
      (hA 5).trans (final5 m c _ fun t => (dats m c).toRRel_leaves (fgt := fgt) (Rl := Rl m c) (w := 5) rfl (hL 5 t (flush0_5 t))),
      (hA 6).trans (final6 m c _ fun s y hy => (dats m c).toRRel_leaves (fgt := fgt) (Rl := Rl m c) (w := 6) rfl (hL 6 t4 ((flush0_6 t4).mpr rfl)) s y (by have := s.isLt; show s.val ≤ 4; omega) hy),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c))⟩, h.2⟩)
    (run_main m ρ)

end Cert.KernelIdeal.Own

end
-- ==== Proof.RefRow.lean ====
/- The reference's results at an index, in the words of the row. -/
module

public import proofs.«01_k».proof.Proof.Gen.ReferenceIdeal.Run
public import proofs.«01_k».proof.Proof.RowScale
public import Idealize.ShloMosaic.Lib.Pointwise

@[expose] public section

noncomputable section

namespace Cert.ReferenceIdeal.Own

open Cert.ReferenceIdeal Cert.ReferenceIdeal.Gen Idealize.ShloMosaic Idealize.ShloMosaic.TcCoe Idealize.SL.Sem Idealize.ShloMosaic.StableHlo Cert.ReferenceIdeal.Value Cert.RowMath

variable (V : Valuation τ sig (Elt Ideal))

/-- Row `(b, s)` of the activations and the gains. -/
def xR (b : Fin 5) (s : Fin 384) : ℕ → EReal := ext fun a => (V (Proc.devRef .tc main_arg0) (ix3 b s a) : EReal)
def gR : ℕ → EReal := ext fun a => (V (Proc.devRef .tc main_arg1) (ix1 a) : EReal)

/-- The scaled row that the transform starts from. -/
def fR (b : Fin 5) (s : Fin 384) (a : ℕ) : EReal := xR V b s a * rn (xR V b s) * gR V a

theorem v14_at (b : Fin 5) (s : Fin 384) (q : Fin 1) (i : Fin 2) (j : Fin 1024) :
    res_main_v14 V (ix5 b s q i j) = (hd 0 2048 (fR V b s) q (i * 1024 + j) : EReal) := by
  obtain rfl : q = 0 := Subsingleton.elim _ _
  unfold res_main_v14 res_main_v0
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  rw [ssq_fin fun x => (V (Proc.devRef .tc main_arg0) (ix3 b s x) : EReal)]
  rw [hd_zero]
  unfold fR xR gR
  rw [ext_of _ _ (by omega), ext_of _ _ (by omega)]
  unfold rn
  with_reducible rfl

theorem v25_at (b : Fin 5) (s : Fin 384) (q : Fin 2) (i : Fin 2) (j : Fin 512) :
    res_main_v25 V (ix5 b s q i j) = (hd 1 1024 (fR V b s) q (i * 512 + j) : EReal) := by
  generalize hR : hd 1 1024 (fR V b s) q (i * 512 + j) = R
  unfold res_main_v25 res_main_v16 res_main_v18
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  refine Eq.trans ?_ (((hd_succ 0 1024 (fR V b s) q (i * 512 + j)).trans (by rw [Nat.mod_eq_of_lt q.2, Nat.div_eq_of_lt q.2])).symm.trans hR)
  simp only [v14_at, Fin.val_zero, Fin.val_one, zero_mul, zero_add, one_mul, dite_eq_ite]
  rw [Nat.add_comm 1024]

theorem v36_at (b : Fin 5) (s : Fin 384) (q : Fin 4) (i : Fin 2) (j : Fin 256) :
    res_main_v36 V (ix5 b s q i j) = (hd 2 512 (fR V b s) q (i * 256 + j) : EReal) := by
  generalize hR : hd 2 512 (fR V b s) q (i * 256 + j) = R
  unfold res_main_v36 res_main_v27 res_main_v29
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  refine Eq.trans ?_ ((hd_succ 1 512 (fR V b s) q (i * 256 + j)).symm.trans hR)
  simp only [v25_at, Fin.val_zero, Fin.val_one, zero_mul, zero_add, one_mul, dite_eq_ite]
  rw [Nat.add_comm 512]

theorem v47_at (b : Fin 5) (s : Fin 384) (q : Fin 8) (i : Fin 2) (j : Fin 128) :
    res_main_v47 V (ix5 b s q i j) = (hd 3 256 (fR V b s) q (i * 128 + j) : EReal) := by
  generalize hR : hd 3 256 (fR V b s) q (i * 128 + j) = R
  unfold res_main_v47 res_main_v38 res_main_v40
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  refine Eq.trans ?_ ((hd_succ 2 256 (fR V b s) q (i * 128 + j)).symm.trans hR)
  simp only [v36_at, Fin.val_zero, Fin.val_one, zero_mul, zero_add, one_mul, dite_eq_ite]
  rw [Nat.add_comm 256]

theorem v58_at (b : Fin 5) (s : Fin 384) (q : Fin 16) (i : Fin 2) (j : Fin 64) :
    res_main_v58 V (ix5 b s q i j) = (hd 4 128 (fR V b s) q (i * 64 + j) : EReal) := by
  generalize hR : hd 4 128 (fR V b s) q (i * 64 + j) = R
  unfold res_main_v58 res_main_v49 res_main_v51
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  refine Eq.trans ?_ ((hd_succ 3 128 (fR V b s) q (i * 64 + j)).symm.trans hR)
  simp only [v47_at, Fin.val_zero, Fin.val_one, zero_mul, zero_add, one_mul, dite_eq_ite]
  rw [Nat.add_comm 128]

theorem v69_at (b : Fin 5) (s : Fin 384) (q : Fin 32) (i : Fin 2) (j : Fin 32) :
    res_main_v69 V (ix5 b s q i j) = (hd 5 64 (fR V b s) q (i * 32 + j) : EReal) := by
  generalize hR : hd 5 64 (fR V b s) q (i * 32 + j) = R
  unfold res_main_v69 res_main_v60 res_main_v62
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  refine Eq.trans ?_ ((hd_succ 4 64 (fR V b s) q (i * 32 + j)).symm.trans hR)
  simp only [v58_at, Fin.val_zero, Fin.val_one, zero_mul, zero_add, one_mul, dite_eq_ite]
  rw [Nat.add_comm 64]

theorem v80_at (b : Fin 5) (s : Fin 384) (q : Fin 64) (i : Fin 2) (j : Fin 16) :
    res_main_v80 V (ix5 b s q i j) = (hd 6 32 (fR V b s) q (i * 16 + j) : EReal) := by
  generalize hR : hd 6 32 (fR V b s) q (i * 16 + j) = R
  unfold res_main_v80 res_main_v71 res_main_v73
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  refine Eq.trans ?_ ((hd_succ 5 32 (fR V b s) q (i * 16 + j)).symm.trans hR)
  simp only [v69_at, Fin.val_zero, Fin.val_one, zero_mul, zero_add, one_mul, dite_eq_ite]
  rw [Nat.add_comm 32]

theorem v91_at (b : Fin 5) (s : Fin 384) (q : Fin 128) (i : Fin 2) (j : Fin 8) :
    res_main_v91 V (ix5 b s q i j) = (hd 7 16 (fR V b s) q (i * 8 + j) : EReal) := by
  generalize hR : hd 7 16 (fR V b s) q (i * 8 + j) = R
  unfold res_main_v91 res_main_v82 res_main_v84
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  refine Eq.trans ?_ ((hd_succ 6 16 (fR V b s) q (i * 8 + j)).symm.trans hR)
  simp only [v80_at, Fin.val_zero, Fin.val_one, zero_mul, zero_add, one_mul, dite_eq_ite]
  rw [Nat.add_comm 16]

theorem v102_at (b : Fin 5) (s : Fin 384) (q : Fin 256) (i : Fin 2) (j : Fin 4) :
    res_main_v102 V (ix5 b s q i j) = (hd 8 8 (fR V b s) q (i * 4 + j) : EReal) := by
  generalize hR : hd 8 8 (fR V b s) q (i * 4 + j) = R
  unfold res_main_v102 res_main_v93 res_main_v95
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  refine Eq.trans ?_ ((hd_succ 7 8 (fR V b s) q (i * 4 + j)).symm.trans hR)
  simp only [v91_at, Fin.val_zero, Fin.val_one, zero_mul, zero_add, one_mul, dite_eq_ite]
  rw [Nat.add_comm 8]

theorem v113_at (b : Fin 5) (s : Fin 384) (q : Fin 512) (i : Fin 2) (j : Fin 2) :
    res_main_v113 V (ix5 b s q i j) = (hd 9 4 (fR V b s) q (i * 2 + j) : EReal) := by
  generalize hR : hd 9 4 (fR V b s) q (i * 2 + j) = R
  unfold res_main_v113 res_main_v104 res_main_v106
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  refine Eq.trans ?_ ((hd_succ 8 4 (fR V b s) q (i * 2 + j)).symm.trans hR)
  simp only [v102_at, Fin.val_zero, Fin.val_one, zero_mul, zero_add, one_mul, dite_eq_ite]
  rw [Nat.add_comm 4]

theorem v124_at (b : Fin 5) (s : Fin 384) (q : Fin 1024) (i : Fin 2) (j : Fin 1) :
    res_main_v124 V (ix5 b s q i j) = (hd 10 2 (fR V b s) q (i * 1 + j) : EReal) := by
  generalize hR : hd 10 2 (fR V b s) q (i * 1 + j) = R
  unfold res_main_v124 res_main_v115 res_main_v117
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  refine Eq.trans ?_ ((hd_succ 9 2 (fR V b s) q (i * 1 + j)).symm.trans hR)
  simp only [v113_at, Fin.val_zero, Fin.val_one, zero_mul, zero_add, one_mul, dite_eq_ite]
  rw [Nat.add_comm 2]
  rw [show (i : ℕ) * 1 + (j : ℕ) = i by omega]

theorem v136_at (b : Fin 5) (s : Fin 384) (q : Fin 2048) : res_main_v136 V (ix3 b s q) = (hR (xR V b s) (gR V) q : EReal) := by
  generalize hR : Cert.RowMath.hR (xR V b s) (gR V) q = R
  unfold res_main_v136 res_main_v126 res_main_v128
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  simp only [v124_at, Fin.val_zero, Fin.val_one, zero_mul, zero_add, one_mul, dite_eq_ite]
  rw [← hR]
  exact congrArg (· * _) (hd_succ 10 1 (fR V b s) q 0).symm

end Cert.ReferenceIdeal.Own

end
-- ==== Proof.RefValue.lean ====
/- The reference's results at an index. -/
module

public import proofs.«01_k».proof.Proof.RefRow

@[expose] public section

noncomputable section

namespace Cert.ReferenceIdeal.Own

open Cert.ReferenceIdeal Cert.ReferenceIdeal.Gen Idealize.ShloMosaic Idealize.ShloMosaic.TcCoe Idealize.SL.Sem Idealize.ShloMosaic.StableHlo Cert.ReferenceIdeal.Value Cert.RowMath

variable (V : Valuation τ sig (Elt Ideal))

/-- The largest magnitude of a row. -/
def MR (b : Fin 5) (s : Fin 384) : EReal :=
  Finset.fold max (Ideal.ofBits .f32 0xFF800000#32) (fun x => FloatOps.absf (F := Ideal) (φ := .f32) (res_main_v136 V x)) ({i | reducesTo_S5x384x2048_S5x384_d2.drop i = ix2 b s} : Finset S5x384x2048.Idx)

theorem MR_greatest (b : Fin 5) (s : Fin 384) : IsGreatest {y | ∃ q < 2048, y = mag (hR (xR V b s) (gR V) q)} (MR V b s) := by
  unfold MR
  rw [lit_bot]
  have h := fold_greatest ({i | reducesTo_S5x384x2048_S5x384_d2.drop i = ix2 b s} : Finset S5x384x2048.Idx) (fun x => mag (res_main_v136 V x : EReal))
  have hm (q : Fin 2048) : ix3 b s q ∈ ({i | reducesTo_S5x384x2048_S5x384_d2.drop i = ix2 b s} : Finset S5x384x2048.Idx) := by
    rw [Finset.mem_filter]
    refine ⟨Finset.mem_univ _, ?_⟩
    funext a
    match a with
    | ⟨0, _⟩ => rfl
    | ⟨1, _⟩ => rfl
  have h := h ⟨_, hm 0⟩
  have e : {y | ∃ q < 2048, y = mag (hR (xR V b s) (gR V) q)}
      = {y | ∃ i ∈ ({i | reducesTo_S5x384x2048_S5x384_d2.drop i = ix2 b s} : Finset S5x384x2048.Idx), y = mag (res_main_v136 V i : EReal)} := by
    ext y
    constructor
    · rintro ⟨q, hq, rfl⟩
      exact ⟨_, hm ⟨q, hq⟩, by rw [v136_at]⟩
    · rintro ⟨i, hi, rfl⟩
      idx_vars i
      rw [Finset.mem_filter] at hi
      have h0 : i0 = b := congrFun hi.2 0
      have h1 : i1 = s := congrFun hi.2 1
      subst h0 h1
      exact ⟨i2, i2.2, by rw [v136_at]⟩
  rw [e]
  exact h

theorem v143_at (b : Fin 5) (s : Fin 384) : res_main_v143 V (ix2 b s) = (sc (MR V b s) : EReal) := by
  generalize hR : sc (MR V b s) = R
  unfold res_main_v143 res_main_v138
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  rw [← hR]
  unfold sc MR
  rfl

theorem v151_at (b : Fin 5) (s : Fin 384) (q : Fin 2048) : (res_main_v151_0 V (ix3 b s q) : BitVec 8)
    = BitVec.setWidth 8 (Ideal.fptosi 32 (min (Ideal.ofBits .f32 0x40E00000#32) (max (Ideal.ofBits .f32 0xC0E00000#32)
        (Ideal.liftRound Ideal.roundHalfEven (Ideal.div (hR (xR V b s) (gR V) q) (sc (MR V b s))))))) := by
  rw [← v136_at, ← v143_at]
  unfold res_main_v151_0
  simp only [id]
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  rfl

theorem v154_at (b : Fin 5) (s : Fin 384) (q : Fin 2048) : (res_main_v154 V (ix3 b s q) : EReal)
    = (((BitVec.signExtend 32 (res_main_v151_0 V (ix3 b s q) : BitVec 8)).toInt : ℝ) : EReal) := by
  unfold res_main_v154
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  rfl

end Cert.ReferenceIdeal.Own

end
-- ==== Proof.RefProd.lean ====
/- The reference's product at an index. -/
module

public import proofs.«01_k».proof.Proof.RefValue

@[expose] public section

noncomputable section

namespace Cert.ReferenceIdeal.Own

open Cert.ReferenceIdeal Cert.ReferenceIdeal.Gen Idealize.ShloMosaic Idealize.ShloMosaic.TcCoe Idealize.SL.Sem Idealize.ShloMosaic.StableHlo Cert.ReferenceIdeal.Value Cert.RowMath

variable (V : Valuation τ sig (Elt Ideal))

/-- The product as it is written. -/
def yR : S1920x1536.Idx → EReal := shapeCast _ (truncf .bf16 (mulf (mulf (addf (addf (addf (Host.dotGeneral (φ₁ := .bf16) dot_S5x384x512_S512x1536_S5x384x1536_2_0_01_1_n_n none (extractStridedSlice S5x384x512 ![0, 0, 0] (res_main_v154 V) slices_S5x384x2048_S5x384x512_0_0_0) (truncf .bf16 (sitofp .f32 (subi (id (andi (Host.shrui (extui 32 (V (Proc.devRef .tc main_arg2)) natLt_8_32) (broadcastInDim S512x1536 ![] bcast_S_S512x1536 (constantI S_ 32 0#32))) (broadcastInDim S512x1536 ![] bcast_S_S512x1536 (constantI S_ 32 3#32)))) (broadcastInDim S512x1536 ![] bcast_S_S512x1536 (constantI S_ 32 1#32)))) bitsLt_bf16_f32)) (Host.dotGeneral (φ₁ := .bf16) dot_S5x384x512_S512x1536_S5x384x1536_2_0_01_1_n_n none (extractStridedSlice S5x384x512 ![0, 0, 512] (res_main_v154 V) slices_S5x384x2048_S5x384x512_0_0_512) (truncf .bf16 (sitofp .f32 (subi (id (andi (Host.shrui (extui 32 (V (Proc.devRef .tc main_arg2)) natLt_8_32) (broadcastInDim S512x1536 ![] bcast_S_S512x1536 (constantI S_ 32 2#32))) (broadcastInDim S512x1536 ![] bcast_S_S512x1536 (constantI S_ 32 3#32)))) (broadcastInDim S512x1536 ![] bcast_S_S512x1536 (constantI S_ 32 1#32)))) bitsLt_bf16_f32))) (Host.dotGeneral (φ₁ := .bf16) dot_S5x384x512_S512x1536_S5x384x1536_2_0_01_1_n_n none (extractStridedSlice S5x384x512 ![0, 0, 1024] (res_main_v154 V) slices_S5x384x2048_S5x384x512_0_0_1024) (truncf .bf16 (sitofp .f32 (subi (id (andi (Host.shrui (extui 32 (V (Proc.devRef .tc main_arg2)) natLt_8_32) (broadcastInDim S512x1536 ![] bcast_S_S512x1536 (constantI S_ 32 4#32))) (broadcastInDim S512x1536 ![] bcast_S_S512x1536 (constantI S_ 32 3#32)))) (broadcastInDim S512x1536 ![] bcast_S_S512x1536 (constantI S_ 32 1#32)))) bitsLt_bf16_f32))) (Host.dotGeneral (φ₁ := .bf16) dot_S5x384x512_S512x1536_S5x384x1536_2_0_01_1_n_n none (extractStridedSlice S5x384x512 ![0, 0, 1536] (res_main_v154 V) slices_S5x384x2048_S5x384x512_0_0_1536) (truncf .bf16 (sitofp .f32 (subi (id (andi (Host.shrui (extui 32 (V (Proc.devRef .tc main_arg2)) natLt_8_32) (broadcastInDim S512x1536 ![] bcast_S_S512x1536 (constantI S_ 32 6#32))) (broadcastInDim S512x1536 ![] bcast_S_S512x1536 (constantI S_ 32 3#32)))) (broadcastInDim S512x1536 ![] bcast_S_S512x1536 (constantI S_ 32 1#32)))) bitsLt_bf16_f32))) (broadcastInDim S5x384x1536 ![0, 1, 2] bcast_S5x384x1_S5x384x1536_0_1_2 (broadcastInDim S5x384x1 ![0, 1] bcast_S5x384_S5x384x1_0_1 (id (res_main_v143 V))))) (broadcastInDim S5x384x1536 ![] bcast_S_S5x384x1536 (shapeCast _ (V (Proc.devRef .tc main_arg3)) shapeCasts_S1_S_))) bitsLt_bf16_f32) shapeCasts_S5x384x1536_S1920x1536

/-- A weight's integer, as the mathematics takes it from its byte. -/
theorem field0 (b : BitVec 8) : (IntOp.subi (IntOp.andi (IntOp.shrui ArithUnit.host (BitVec.setWidth 32 b) 0#32) 3#32) 1#32).toInt = wv b 0 := by
  revert b; exact fun b => (by decide +kernel : ∀ n : Fin 256, (IntOp.subi (IntOp.andi (IntOp.shrui ArithUnit.host (BitVec.setWidth 32 (BitVec.ofFin (w := 8) n)) 0#32) 3#32) 1#32).toInt = wv (BitVec.ofFin (w := 8) n) 0) b.toFin
theorem field1 (b : BitVec 8) : (IntOp.subi (IntOp.andi (IntOp.shrui ArithUnit.host (BitVec.setWidth 32 b) 2#32) 3#32) 1#32).toInt = wv b 1 := by
  revert b; exact fun b => (by decide +kernel : ∀ n : Fin 256, (IntOp.subi (IntOp.andi (IntOp.shrui ArithUnit.host (BitVec.setWidth 32 (BitVec.ofFin (w := 8) n)) 2#32) 3#32) 1#32).toInt = wv (BitVec.ofFin (w := 8) n) 1) b.toFin
theorem field2 (b : BitVec 8) : (IntOp.subi (IntOp.andi (IntOp.shrui ArithUnit.host (BitVec.setWidth 32 b) 4#32) 3#32) 1#32).toInt = wv b 2 := by
  revert b; exact fun b => (by decide +kernel : ∀ n : Fin 256, (IntOp.subi (IntOp.andi (IntOp.shrui ArithUnit.host (BitVec.setWidth 32 (BitVec.ofFin (w := 8) n)) 4#32) 3#32) 1#32).toInt = wv (BitVec.ofFin (w := 8) n) 2) b.toFin
theorem field3 (b : BitVec 8) : (IntOp.subi (IntOp.andi (IntOp.shrui ArithUnit.host (BitVec.setWidth 32 b) 6#32) 3#32) 1#32).toInt = wv b 3 := by
  revert b; exact fun b => (by decide +kernel : ∀ n : Fin 256, (IntOp.subi (IntOp.andi (IntOp.shrui ArithUnit.host (BitVec.setWidth 32 (BitVec.ofFin (w := 8) n)) 6#32) 3#32) 1#32).toInt = wv (BitVec.ofFin (w := 8) n) 3) b.toFin

/-- The codes of a row, and the bytes of a column of weights. -/
def cR (b : Fin 5) (s : Fin 384) : ℕ → EReal := ext fun q => (((BitVec.signExtend 32 (res_main_v151_0 V (ix3 b s q) : BitVec 8)).toInt : ℝ) : EReal)
def bR (n : Fin 1536) (k : Fin 512) : BitVec 8 := V (Proc.devRef .tc main_arg2) (ix2 k n)

theorem term (b : Fin 5) (s : Fin 384) (n : Fin 1536) (x : Fin 512) (q : Fin 2048) (f : ℕ) (hq : q.val = f * 512 + x.val) (w : BitVec 32)
    (hw : w.toInt = wv (V (Proc.devRef .tc main_arg2) (ix2 x n)) f) :
    HMul.hMul (α := EReal) (β := EReal) (γ := EReal) (res_main_v154 V (ix3 b s q)) (FloatOps.sitofp (F := Ideal) .f32 w) = cR V b s q.val * wt (bR V n) q.val := by
  rw [v154_at]
  unfold cR wt bR
  rw [ext_of _ _ q.2]
  congr 1
  have e : (⟨q.val % 512, Nat.mod_lt _ (by norm_num)⟩ : Fin 512) = x := Fin.ext (by show q.val % 512 = x.val; omega)
  rw [e, show q.val / 512 = f by omega, ← hw]
  rfl

theorem yR_at (i : Fin 1920) (n : Fin 1536) : yR V (ix2 i n)
    = dot (cR V ⟨i / 384, by omega⟩ ⟨i % 384, by omega⟩) (wt (bR V n)) * sc (MR V ⟨i / 384, by omega⟩ ⟨i % 384, by omega⟩) * (V (Proc.devRef .tc main_arg3) (ix1 0) : EReal) := by
  rw [dot_four, ← v143_at]
  generalize hb : (⟨i / 384, by omega⟩ : Fin 5) = b
  generalize hs : (⟨i % 384, by omega⟩ : Fin 384) = s
  have t0 (x : Fin 512) : _ = cR V b s (x.val) * wt (bR V n) (x.val) := term V b s n x ⟨x.val, by omega⟩ 0 (by simp) _ (field0 _)
  have t1 (x : Fin 512) : _ = cR V b s (512 + x.val) * wt (bR V n) (512 + x.val) := term V b s n x ⟨512 + x.val, by omega⟩ 1 (by rfl) _ (field1 _)
  have t2 (x : Fin 512) : _ = cR V b s (1024 + x.val) * wt (bR V n) (1024 + x.val) := term V b s n x ⟨1024 + x.val, by omega⟩ 2 (by rfl) _ (field2 _)
  have t3 (x : Fin 512) : _ = cR V b s (1536 + x.val) * wt (bR V n) (1536 + x.val) := term V b s n x ⟨1536 + x.val, by omega⟩ 3 (by rfl) _ (field3 _)
  rw [← Finset.sum_congr rfl (fun x _ => t0 x), ← Finset.sum_congr rfl (fun x _ => t1 x), ← Finset.sum_congr rfl (fun x _ => t2 x), ← Finset.sum_congr rfl (fun x _ => t3 x)]
  subst hb hs
  unfold yR
  simp only [id]
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]

end Cert.ReferenceIdeal.Own

end
-- ==== Proof.Equal.lean ====
/- The two programs' results are equal. -/
module

public import proofs.«01_k».proof.Proof.KValue
public import proofs.«01_k».proof.Proof.Final
public import proofs.«01_k».proof.Proof.RefProd

@[expose] public section

noncomputable section

namespace Cert.Equal

open Idealize.ShloMosaic Idealize.ShloMosaic.TcCoe Idealize.SL.Sem Idealize.ShloMosaic.StableHlo Cert.RowMath
open Cert.KernelIdeal.Own (xK gK bK pt cbyte cOut yOut sOut G4 G5 G6 rowPt rowIn)
open Cert.ReferenceIdeal.Own (xR gR bR MR cR yR)
open Cert.ReferenceIdeal.Value (res_main_v151_0 res_main_v143)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The reference's arrays at its start. -/
abbrev Vr : Valuation Cert.ReferenceIdeal.τ Cert.ReferenceIdeal.sig (Elt Ideal) := launchContents m' c

/-- The two programs start on equal arguments. -/
abbrev Args : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable (h : Args m m' c)
include h

theorem x_eq (b : Fin 5) (s : Fin 384) : xR (Vr m' c) b s = xK m c b s := by
  unfold xR xK
  exact congrArg ext (funext fun a => congrFun h.1 (ix3 b s a))
theorem g_eq : gR (Vr m' c) = gK m c := by
  unfold gR gK
  exact congrArg ext (funext fun a => congrFun h.2.1 (ix1 a))
theorem b_eq (n : Fin 1536) : bR (Vr m' c) n = bK m c n := by
  unfold bR bK
  exact funext fun k => congrFun h.2.2.1 (ix2 k n)
theorem ws_eq : (Vr m' c (Proc.devRef .tc Cert.ReferenceIdeal.main_arg3) (ix1 0) : EReal) = (m ((c.tc : Thread Cert.KernelIdeal.nD Cert.KernelIdeal.τ).loc Cert.KernelIdeal.main_arg3) : Cert.KernelIdeal.S1.Idx → EReal) (ix1 0) :=
  congrFun h.2.2.2 (ix1 0)

/-- The reference's largest magnitude is that of the kernel's rows. -/
theorem M_greatest (b : Fin 5) (s : Fin 384) : IsGreatest {y | ∃ q < 2048, y = mag (hR (xK m c b s) (gK m c) q)} (MR (Vr m' c) b s) := by
  have e := Cert.ReferenceIdeal.Own.MR_greatest (Vr m' c) b s
  rw [x_eq m m' c h, g_eq m m' c h] at e
  exact e

/-- The reference's codes are the kernel's. -/
theorem code_eq (b : Fin 5) (s : Fin 384) (q : Fin 2048) : (res_main_v151_0 (Vr m' c) (ix3 b s q) : BitVec 8)
    = cbyte (Ideal.div (hR (xK m c b s) (gK m c) q) (sc (MR (Vr m' c) b s))) := by
  rw [Cert.ReferenceIdeal.Own.v151_at, x_eq m m' c h, g_eq m m' c h]
  unfold cbyte
  rfl

theorem eq4 : (G4 m c : Cert.KernelIdeal.S1920x1536.Idx → EReal) = yR (Vr m' c) := by
  funext i
  obtain ⟨a, n, rfl⟩ : ∃ (a : Fin 1920) (n : Fin 1536), i = ix2 a n := ⟨i 0, i 1, by idx_vars i⟩
  rw [Cert.ReferenceIdeal.Own.yR_at, b_eq m m' c h, ws_eq m m' c h]
  unfold G4
  have hl : a.val / 384 < 5 := by omega
  refine Cert.KernelIdeal.Own.yOut_at m c (rowPt a.val a.isLt) (fun s => MR (Vr m' c) ⟨a.val / 384, hl⟩ s) (fun s => M_greatest m m' c h ⟨a.val / 384, hl⟩ s)
    (fun s => cR (Vr m' c) ⟨a.val / 384, hl⟩ s) (fun s q hq => ?_) (rowIn a.val) n
  unfold cR
  rw [ext_of _ _ hq, code_eq m m' c h]
  rfl

theorem eq5 : (G5 m c : Cert.KernelIdeal.S1920x2048.Idx → BitVec 8) = shapeCast Cert.ReferenceIdeal.S1920x2048 (res_main_v151_0 (Vr m' c) : Cert.ReferenceIdeal.S5x384x2048.Idx → BitVec 8) Cert.ReferenceIdeal.Gen.shapeCasts_S5x384x2048_S1920x2048 := by
  funext i
  obtain ⟨a, q, rfl⟩ : ∃ (a : Fin 1920) (q : Fin 2048), i = ix2 a q := ⟨i 0, i 1, by idx_vars i⟩
  have hl : a.val / 384 < 5 := by omega
  have e := code_eq m m' c h ⟨a.val / 384, hl⟩ (rowIn a.val) q
  have k := Cert.KernelIdeal.Own.cOut_at m c (rowPt a.val a.isLt) (fun s => MR (Vr m' c) ⟨a.val / 384, hl⟩ s) (fun s => M_greatest m m' c h ⟨a.val / 384, hl⟩ s) (rowIn a.val) q
  unfold G5
  refine (k.trans e.symm).trans ?_
  generalize (res_main_v151_0 (Vr m' c) : Cert.ReferenceIdeal.S5x384x2048.Idx → BitVec 8) = v
  set_option backward.isDefEq.respectTransparency false in simp -failIfUnchanged -implicitDefEqProofs only [pointwise, Fin.isValue, Matrix.cons_val_zero, Matrix.cons_val_one, Matrix.cons_val_fin_one, Matrix.cons_val, Matrix.head_cons, ↓reduceDIte, ↓reduceIte, Fin.zero_eta, Fin.mk_one, Fin.mk_zero, Fin.val_zero, Fin.val_one, Fin.val_two, Fin.coe_ofNat_eq_mod, Fin.val_mk, Fin.cast_mk, Fin.val_cast, Fin.cast_eq_self, OfNat.ofNat_ne_one, OfNat.ofNat_ne_zero, Nat.reduceMod, Nat.reduceSub, Nat.reduceAdd, Nat.reduceMul, Nat.reduceDiv, Nat.reduceEqDiff, Nat.reduceLT, Nat.reduceGT, Nat.reduceLeDiff, Nat.add_zero, Nat.zero_add, Nat.mul_one, Nat.one_mul, Nat.mul_zero, Nat.zero_mul, Nat.zero_mod, Nat.sub_zero, Fin.reduceEq, Fin.reduceNe, BitVec.reduceToNat, Nat.div_one, Nat.mod_one, Nat.zero_le, true_and, and_true, Nat.lt_irrefl, List.foldl_cons, List.foldl_nil, zero_add, add_zero, mul_one, one_mul, sub_zero]
  rfl

theorem eq6 : (G6 m c : Cert.KernelIdeal.S5x384.Idx → EReal) = res_main_v143 (Vr m' c) := by
  funext i
  obtain ⟨b, s, rfl⟩ : ∃ (b : Fin 5) (s : Fin 384), i = ix2 b s := ⟨i 0, i 1, by idx_vars i⟩
  rw [Cert.ReferenceIdeal.Own.v143_at]
  unfold G6
  exact Cert.KernelIdeal.Own.sOut_at m c ⟨b.val, lt_of_lt_of_eq b.isLt (Eq.symm Cert.KernelIdeal.Gen.N_0)⟩ (fun s => MR (Vr m' c) b s) (fun s => M_greatest m m' c h b s) s

end Cert.Equal

end
-- ==== Proof.BitsBody.lean ====
/- The same for the kernel as printed, over the words of the float formats. The kernel body cut in two: what the first grid point builds (the sign blocks scaled by the norm's weight and the decoded weights), and
what every point does. Each half is run once on any whole staging memrefs. -/
module

public import proofs.«01_k».proof.Proof.Gen.Kernel.Frame
public import proofs.«01_k».proof.Proof.Gen.Kernel.Skeleton

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one branch, from the grid coordinates. -/
abbrev cond (i : grid0.Coords) : Prop := (Scalar.cmpi .ne (Scalar.extui (Scalar.cmpi .eq (BitVec.ofNat 32 (i 0).val) 0#32)) 0#32) = 1#1

/-- It holds at the first point only. -/
theorem hcond : ∀ t : Fin cfg0.N, cond (grid0.coords t) ↔ t.val = 0 :=
  (fun t => by
    have ht : t.val < 5 := Nat.lt_of_lt_of_eq t.isLt N_0
    have e0 : (grid0.coords t 0).val = t.val / 1 % 5 := Pipeline.Grid.coords_val t 0 (by decide) rfl
    have e1 : t.val = 0 ↔ t.val % 5 = 0 := by omega
    rw [e1]
    simp only [cond, e0]
    word_cmp
   : ∀ t : Fin grid0.N, cond (grid0.coords t) ↔ t.val = 0)

/-- What the first point alone does: the two scratch arrays filled. -/
noncomputable def bld (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole) : Prog (TpuEff nD τ sig (Elt F) Λ₀ .tc) PUnit := do
  let ⟨v1251, v1252, v1253⟩ : Σ' (v1251 : IVec S128x1536 32) (v1252 : IVec S128x1536 32), IVec S128x1536 32 ← k0_part23 i arg1 harg1 arg2 harg2 arg3 harg3 arg4 harg4 arg5 harg5 arg6 harg6 arg7 harg7 arg8 harg8 arg9 harg9
  let v1257 : Vec F S512x1536 .fp8e4m3 ← Prog.lift (.load arg9 (Rect.unit (s := S2048x1536) ![1536, 0] S512x1536.size inb_S2048x1536_S512x1536_1536_0).toLoadRect (View.loadsAt_vmem h_S512x1536))
  Prog.lift (.store arg9 (Rect.unit (s := S2048x1536) ![1536, 0] S512x1536.size inb_S2048x1536_S512x1536_1536_0) (k0_pay210 (F := F) v1251 v1252 v1253) Finset.univ (View.stores_vmem h_S512x1536 (harg9.storeExact_slice rfl _ packedfp8e4m3_S2048x1536_S512x1536_1536_0) (fun _ => rfl)) (.inl rfl))
  pure ⟨⟩

/-- The loads of the part that holds the branch. -/
noncomputable def part24b (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole) :
    Prog (TpuEff nD τ sig (Elt F) Λ₀ .tc) (Σ' (arg0 : BitVec 32) (v15 : FVec F S384x256 .f32) (v17 : FVec F S384x256 .f32) (v19 : FVec F S384x256 .bf16), FVec F S384x256 .f32) := do
  let arg0 : BitVec 32 := BitVec.ofNat 32 (i 0).val
  let v3 : Vec F S384x256 .bf16 ← Prog.lift (.load arg1 (Rect.unit (s := S384x2048) ![0, 0] S384x256.size inb_S384x2048_S384x256_0_0).toLoadRect (View.loadsAt_vmem h_S384x256))
  let v5 : Vec F S1x1x256x256 .bf16 ← Prog.lift (.load arg8 (Rect.unit (s := S8x3x256x256) ![0, 0, 0, 0] S1x1x256x256.size inb_S8x3x256x256_S1x1x256x256_0_0_0_0).toLoadRect (View.loadsAt_vmem h_S1x1x256x256))
  let v8 : Vec F S1x1x256x256 .bf16 ← Prog.lift (.load arg8 (Rect.unit (s := S8x3x256x256) ![0, 1, 0, 0] S1x1x256x256.size inb_S8x3x256x256_S1x1x256x256_0_1_0_0).toLoadRect (View.loadsAt_vmem h_S1x1x256x256))
  let v12 : Vec F S1x1x256x256 .bf16 ← Prog.lift (.load arg8 (Rect.unit (s := S8x3x256x256) ![0, 2, 0, 0] S1x1x256x256.size inb_S8x3x256x256_S1x1x256x256_0_2_0_0).toLoadRect (View.loadsAt_vmem h_S1x1x256x256))
  let v18 : Vec F S384x256 .bf16 ← Prog.lift (.load arg1 (Rect.unit (s := S384x2048) ![0, 256] S384x256.size inb_S384x2048_S384x256_0_256).toLoadRect (View.loadsAt_vmem h_S384x256))
  let v20 : Vec F S1x1x256x256 .bf16 ← Prog.lift (.load arg8 (Rect.unit (s := S8x3x256x256) ![1, 0, 0, 0] S1x1x256x256.size inb_S8x3x256x256_S1x1x256x256_1_0_0_0).toLoadRect (View.loadsAt_vmem h_S1x1x256x256))
  let v23 : Vec F S1x1x256x256 .bf16 ← Prog.lift (.load arg8 (Rect.unit (s := S8x3x256x256) ![1, 1, 0, 0] S1x1x256x256.size inb_S8x3x256x256_S1x1x256x256_1_1_0_0).toLoadRect (View.loadsAt_vmem h_S1x1x256x256))
  pure ⟨arg0, k0_pay212 v3 v5 v8 v12, k0_pay213 v3, k0_pay214 v18, k0_pay215 v18 v20 v23⟩

/-- What every point does, after the branch. -/
noncomputable def mainProg (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole) :
    Prog (TpuEff nD τ sig (Elt F) Λ₀ .tc) PUnit := do
  let ⟨arg0, v15, v17, v19, v26⟩ : Σ' (arg0 : BitVec 32) (v15 : FVec F S384x256 .f32) (v17 : FVec F S384x256 .f32) (v19 : FVec F S384x256 .bf16), FVec F S384x256 .f32 ← part24b i arg1 harg1 arg2 harg2 arg3 harg3 arg4 harg4 arg5 harg5 arg6 harg6 arg7 harg7 arg8 harg8 arg9 harg9
  let ⟨v30, v46, v49, v51, v54⟩ : Σ' (v30 : FVec F S384x256 .f32) (v46 : FVec F S384x256 .f32) (v49 : FVec F S384x256 .f32) (v51 : FVec F S384x256 .bf16), FVec F S384x256 .f32 ← k0_part25 i arg1 harg1 arg2 harg2 arg3 harg3 arg4 harg4 arg5 harg5 arg6 harg6 arg7 harg7 arg8 harg8 arg9 harg9 v17 v19 v26
  let ⟨v62, v78, v81, v83, v84⟩ : Σ' (v62 : FVec F S384x256 .f32) (v78 : FVec F S384x256 .f32) (v81 : FVec F S384x256 .f32) (v83 : FVec F S384x256 .bf16), Vec F S1x1x256x256 .bf16 ← k0_part26 i arg1 harg1 arg2 harg2 arg3 harg3 arg4 harg4 arg5 harg5 arg6 harg6 arg7 harg7 arg8 harg8 arg9 harg9 v49 v51 v54
  let ⟨v94, v110, v113, v114⟩ : Σ' (v94 : FVec F S384x256 .f32) (v110 : FVec F S384x256 .f32) (v113 : FVec F S384x256 .f32), Vec F S384x256 .bf16 ← k0_part27 i arg1 harg1 arg2 harg2 arg3 harg3 arg4 harg4 arg5 harg5 arg6 harg6 arg7 harg7 arg8 harg8 arg9 harg9 v81 v83 v84
  let ⟨v129, v146, v147, v148, v149, v150, v151, v152, v153, v158, v159⟩ : Σ' (v129 : FVec F S384x256 .f32) (v146 : FVec F S384x256 .f32) (v147 : FVec F S384x256 .f32) (v148 : FVec F S384x256 .f32) (v149 : FVec F S384x256 .f32) (v150 : FVec F S384x256 .f32) (v151 : FVec F S384x256 .f32) (v152 : FVec F S384x256 .f32) (v153 : FVec F S384x256 .f32) (v158 : FVec F S384x256 .f32), FVec F S384x256 .f32 ← k0_part28 i arg1 harg1 arg2 harg2 arg3 harg3 arg4 harg4 arg5 harg5 arg6 harg6 arg7 harg7 arg8 harg8 arg9 harg9 v15 v30 v46 v62 v78 v94 v110 v113 v114
  let ⟨v186, v187, v198, v204⟩ : Σ' (v186 : FVec F S384x1 .f32) (v187 : FVec F S384x1 .f32) (v198 : FVec F S384x256 .fp8e4m3), FVec F S384x256 .f32 ← k0_part29 i arg1 harg1 arg2 harg2 arg3 harg3 arg4 harg4 arg5 harg5 arg6 harg6 arg7 harg7 arg8 harg8 arg9 harg9 v129 v146 v147 v150 v151 v152 v153 v158 v159
  let ⟨v209, v220, v231, v242, v244, cst_149, cst_150⟩ : Σ' (v209 : FVec F S384x256 .fp8e4m3) (v220 : FVec F S384x256 .fp8e4m3) (v231 : FVec F S384x256 .fp8e4m3) (v242 : FVec F S384x256 .fp8e4m3) (v244 : FVec F S384x256 .f32) (cst_149 : F .f32), F .f32 ← k0_part30 i arg1 harg1 arg2 harg2 arg3 harg3 arg4 harg4 arg5 harg5 arg6 harg6 arg7 harg7 arg8 harg8 arg9 harg9 v148 v149 v150 v151 v187 v204
  let ⟨v253, v264, v275, v283, v284⟩ : Σ' (v253 : FVec F S384x256 .fp8e4m3) (v264 : FVec F S384x256 .fp8e4m3) (v275 : FVec F S384x256 .fp8e4m3) (v283 : FVec F S384x256 .f32), Vec F S256x256 .fp8e4m3 ← k0_part31 i arg1 harg1 arg2 harg2 arg3 harg3 arg4 harg4 arg5 harg5 arg6 harg6 arg7 harg7 arg8 harg8 arg9 harg9 arg0 v152 v153 v186 v187 v198 v244 cst_149 cst_150
  let ⟨v313, v315⟩ : Σ' (v313 : FVec F S384x256 .f32), FVec F S384x256 .f32 ← k0_part32 i arg1 harg1 arg2 harg2 arg3 harg3 arg4 harg4 arg5 harg5 arg6 harg6 arg7 harg7 arg8 harg8 arg9 harg9 v186 v198 v209 v220 v231 v242 v253 v264 v275 v283 v284
  let v346 : FVec F S384x256 .f32 ← k0_part33 i arg1 harg1 arg2 harg2 arg3 harg3 arg4 harg4 arg5 harg5 arg6 harg6 arg7 harg7 arg8 harg8 arg9 harg9 v186 v198 v209 v220 v231 v242 v253 v264 v275 v313 v315
  let ⟨v376, v377⟩ : Σ' (v376 : FVec F S384x256 .f32), Vec F S256x256 .fp8e4m3 ← k0_part34 i arg1 harg1 arg2 harg2 arg3 harg3 arg4 harg4 arg5 harg5 arg6 harg6 arg7 harg7 arg8 harg8 arg9 harg9 v186 v198 v209 v220 v231 v242 v253 v264 v275 v346
  let ⟨v406, v408⟩ : Σ' (v406 : FVec F S384x256 .f32), FVec F S384x256 .f32 ← k0_part35 i arg1 harg1 arg2 harg2 arg3 harg3 arg4 harg4 arg5 harg5 arg6 harg6 arg7 harg7 arg8 harg8 arg9 harg9 v186 v198 v209 v220 v231 v242 v253 v264 v275 v376 v377
  let v439 : FVec F S384x256 .f32 ← k0_part36 i arg1 harg1 arg2 harg2 arg3 harg3 arg4 harg4 arg5 harg5 arg6 harg6 arg7 harg7 arg8 harg8 arg9 harg9 v186 v198 v209 v220 v231 v242 v253 v264 v275 v406 v408
  let v440 : Vec F S256x256 .fp8e4m3 ← Prog.lift (.load arg9 (Rect.unit (s := S2048x1536) ![768, 1280] S256x256.size inb_S2048x1536_S256x256_768_1280).toLoadRect (View.loadsAt_vmem h_S256x256))
  let v443 : Vec F S256x256 .fp8e4m3 ← Prog.lift (.load arg9 (Rect.unit (s := S2048x1536) ![1024, 1280] S256x256.size inb_S2048x1536_S256x256_1024_1280).toLoadRect (View.loadsAt_vmem h_S256x256))
  let v446 : Vec F S256x256 .fp8e4m3 ← Prog.lift (.load arg9 (Rect.unit (s := S2048x1536) ![1280, 1280] S256x256.size inb_S2048x1536_S256x256_1280_1280).toLoadRect (View.loadsAt_vmem h_S256x256))
  let v449 : Vec F S256x256 .fp8e4m3 ← Prog.lift (.load arg9 (Rect.unit (s := S2048x1536) ![1536, 1280] S256x256.size inb_S2048x1536_S256x256_1536_1280).toLoadRect (View.loadsAt_vmem h_S256x256))
  let v452 : Vec F S256x256 .fp8e4m3 ← Prog.lift (.load arg9 (Rect.unit (s := S2048x1536) ![1792, 1280] S256x256.size inb_S2048x1536_S256x256_1792_1280).toLoadRect (View.loadsAt_vmem h_S256x256))
  let v457 : Elt F .f32 ← smemLoad arg4 (Rect.unit (s := S1) ![0] S1.size inb_S1_S1_0) numel1_S1 rfl
  let v461 : Vec F S384x256 .bf16 ← Prog.lift (.load arg5 (Rect.unit (s := S384x1536) ![0, 1280] S384x256.size inb_S384x1536_S384x256_0_1280).toLoadRect (View.loadsAt_vmem h_S384x256))
  Prog.lift (.store arg5 (Rect.unit (s := S384x1536) ![0, 1280] S384x256.size inb_S384x1536_S384x256_0_1280) (k0_pay1 v186 v231 v242 v253 v264 v275 v439 v440 v443 v446 v449 v452 v457) Finset.univ (View.stores_vmem h_S384x256 (harg5.storeExact_slice rfl _ packedbf16_S384x1536_S384x256_0_1280) (fun _ => rfl)) (.inl rfl))
  pure ⟨⟩

set_option maxRecDepth 65536 in
theorem body_false (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole) (h : ¬ cond i) : cc0__body (F := F) i arg1 harg1 arg2 harg2 arg3 harg3 arg4 harg4 arg5 harg5 arg6 harg6 arg7 harg7 arg8 harg8 arg9 harg9 = mainProg i arg1 harg1 arg2 harg2 arg3 harg3 arg4 harg4 arg5 harg5 arg6 harg6 arg7 harg7 arg8 harg8 arg9 harg9 := by
  rw [cc0__body_eq_skeleton]
  unfold cc0__body_skel mainProg
  rw [k0_part24_eq_skeleton]
  unfold k0_part24_skel part24b
  simp only [dif_neg h]

set_option maxRecDepth 65536 in
theorem body_true (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole) (h : cond i) : cc0__body (F := F) i arg1 harg1 arg2 harg2 arg3 harg3 arg4 harg4 arg5 harg5 arg6 harg6 arg7 harg7 arg8 harg8 arg9 harg9 = (bld i arg1 harg1 arg2 harg2 arg3 harg3 arg4 harg4 arg5 harg5 arg6 harg6 arg7 harg7 arg8 harg8 arg9 harg9 >>= fun _ => mainProg i arg1 harg1 arg2 harg2 arg3 harg3 arg4 harg4 arg5 harg5 arg6 harg6 arg7 harg7 arg8 harg8 arg9 harg9) := by
  rw [cc0__body_eq_skeleton]
  unfold cc0__body_skel mainProg
  rw [k0_part24_eq_skeleton]
  unfold k0_part24_skel part24b bld
  simp only [dif_pos h, bind_assoc]
  rfl

end Cert.Kernel.Own

end
-- ==== Proof.BitsRunBld.lean ====
/- The same for the kernel as printed, over the words of the float formats. The run of what the first point builds. -/
module

public import proofs.«01_k».proof.Proof.BitsBody

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the first point's stores leave in the two scratch arrays, as pieces (last first), with the triple that leaves them. -/
noncomputable def runBld (c : Dev nD) (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole)
    (x1 : Vec F S1x2048 .f32) (x2 : Vec F S512x1536 .i8) :
    Σ' (LS0 : List (View.Piece (Elt F) S8x3x256x256 .bf16)), { LS1 : List (View.Piece (Elt F) S2048x1536 .fp8e4m3) //
      ∀ (E : Set ℕ) (K : PUnit → sProp 𝕄),
        iprop(owns (c : Thread nD τ) arg2 fullShare x1 ∗ owns (c : Thread nD τ) arg3 fullShare x2 ∗ (∃ d, owns (c : Thread nD τ) arg8 fullShare d) ∗ (∃ d, owns (c : Thread nD τ) arg9 fullShare d)
            ∗ (iprop(owns (c : Thread nD τ) arg2 fullShare x1 ∗ owns (c : Thread nD τ) arg3 fullShare x2 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (bld i arg1 harg1 arg2 harg2 arg3 harg3 arg4 harg4 arg5 harg5 arg6 harg6 arg7 harg7 arg8 harg8 arg9 harg9) K } := by
  refine ⟨?_, ?_, fun E K => ?run⟩
  case run =>
    unfold bld
    simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%ds0, %fs0, -, HS0⟩, ⟨%ds1, %fs1, -, HS1⟩, Hk⟩
    obtain rfl := harg2.eq_unread hf1; obtain rfl := harg3.eq_unread hf2
    sl_exec
    sl_step
    iapply Hk
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Own

end
-- ==== Proof.BitsRunMain.lean ====
/- The same for the kernel as printed, over the words of the float formats. The run of what every point does. -/
module

public import proofs.«01_k».proof.Proof.BitsBody

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What a point's stores leave in the three results' buffers, as pieces (last first), with the triple that leaves them: the scratch arrays
    at `xs0` and `xs1`, the scales' buffer, of which a point writes one row, at `x6`. -/
noncomputable def runMain (c : Dev nD) (i : grid0.Coords) (arg1 : Memref sig .tc .vmem S384x2048 .bf16) (harg1 : arg1.IsWhole) (arg2 : Memref sig .tc .vmem S1x2048 .f32) (harg2 : arg2.IsWhole) (arg3 : Memref sig .tc .vmem S512x1536 .i8) (harg3 : arg3.IsWhole) (arg4 : Memref sig .tc .smem S1 .f32) (harg4 : arg4.IsWhole) (arg5 : Memref sig .tc .vmem S384x1536 .bf16) (harg5 : arg5.IsWhole) (arg6 : Memref sig .tc .vmem S384x2048 .i8) (harg6 : arg6.IsWhole) (arg7 : Memref sig .tc .vmem S5x384 .f32) (harg7 : arg7.IsWhole) (arg8 : Memref sig .tc .vmem S8x3x256x256 .bf16) (harg8 : arg8.IsWhole) (arg9 : Memref sig .tc .vmem S2048x1536 .fp8e4m3) (harg9 : arg9.IsWhole)
    (x0 : Vec F S384x2048 .bf16) (x3 : Vec F S1 .f32) (xs0 : Vec F S8x3x256x256 .bf16) (xs1 : Vec F S2048x1536 .fp8e4m3) :
    Σ' (L4 : List (View.Piece (Elt F) S384x1536 .bf16)), Σ' (L5 : List (View.Piece (Elt F) S384x2048 .i8)), { L6 : List (View.Piece (Elt F) S5x384 .f32) //
      ∀ (x6 : Vec F S5x384 .f32) (E : Set ℕ) (K : PUnit → sProp 𝕄),
        iprop(owns (c : Thread nD τ) arg1 fullShare x0 ∗ owns (c : Thread nD τ) arg4 fullShare x3 ∗ (∃ d, owns (c : Thread nD τ) arg5 fullShare d) ∗ (∃ d, owns (c : Thread nD τ) arg6 fullShare d) ∗ owns (c : Thread nD τ) arg7 fullShare x6 ∗ owns (c : Thread nD τ) arg8 fullShare xs0 ∗ owns (c : Thread nD τ) arg9 fullShare xs1
            ∗ (iprop(owns (c : Thread nD τ) arg1 fullShare x0 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, ⌜arg7.view.read (Elt F) f = x6⌝ ∗ arg7.view.loc (c : Thread nD τ) ↦[arg7.view.set]{fullShare} arg7.view.writes (Elt F) f L6) ∗ owns (c : Thread nD τ) arg8 fullShare xs0 ∗ owns (c : Thread nD τ) arg9 fullShare xs1) -∗ K ⟨⟩))
          ⊢ wp frame (wpE (defs₀ (F := F)) Variants.none c none) E (mainProg i arg1 harg1 arg2 harg2 arg3 harg3 arg4 harg4 arg5 harg5 arg6 harg6 arg7 harg7 arg8 harg8 arg9 harg9) K } := by
  refine ⟨?_, ?_, ?_, fun x6 E K => ?run⟩
  case run =>
    unfold mainProg part24b
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f3, %hf3, H3⟩, ⟨%d4, %f4, -, H4⟩, ⟨%d5, %f5, -, H5⟩, ⟨%f6, %hf6, H6⟩, ⟨%fs0, %hfs0, HS0⟩, ⟨%fs1, %hfs1, HS1⟩, Hk⟩
    obtain rfl := harg1.eq_unread hf0; obtain rfl := harg4.eq_unread hf3; obtain rfl := harg8.eq_unread hfs0; obtain rfl := harg9.eq_unread hfs1
    sl_exec
    sl_step
    iapply Hk
    isplitl [H0]
    · iexists _; isplitr; · ipureintro; exact harg1.read_unread _
      iexact H0
    isplitl [H3]
    · iexists _; isplitr; · ipureintro; exact harg4.read_unread _
      iexact H3
    isplitl [H4]; · iexists _; iexact H4
    isplitl [H5]; · iexists _; iexact H5
    isplitl [H6]
    · iexists f6; isplitr; · ipureintro; exact hf6
      iexact H6
    isplitl [HS0]
    · iexists _; isplitr; · ipureintro; exact harg8.read_unread _
      iexact HS0
    iexists _; isplitr; · ipureintro; exact harg9.read_unread _
    iexact HS1

end Cert.Kernel.Own

end
-- ==== Proof.BitsRun.lean ====
/- The same for the kernel as printed, over the words of the float formats. The run of the pipelined kernel: the scratch as the first point leaves it, the results of a point as its stores leave them (the scales one
   row a point, held to a predicate), the body obligation and the launch. -/
module

public import proofs.«01_k».proof.Proof.BitsRunBld
public import proofs.«01_k».proof.Proof.BitsRunMain
public import Idealize.ShloMosaic.Lib.Pipeline.DatRel
public import Idealize.ShloMosaic.Lib.Pipeline.ArrRel
public import Idealize.ShloMosaic.Lib.WritesUnit

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VO0_4 : View sig .tc .vmem S384x1536 .bf16 := (Memref.whole cc0_stg4_0 : Memref sig .tc .vmem S384x1536 .bf16).view
abbrev VO0_5 : View sig .tc .vmem S384x2048 .i8 := (Memref.whole cc0_stg5_0 : Memref sig .tc .vmem S384x2048 .i8).view
abbrev VO0_6 : View sig .tc .vmem S5x384 .f32 := (Memref.whole cc0_stg6_0 : Memref sig .tc .vmem S5x384 .f32).view
/- Each window's current staging memref at a point, spelled as the pipeline passes it, and its wholeness. -/
abbrev ms0_0 (t : Fin cfg0.N) : Memref sig .tc .vmem S384x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S384x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x2048 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5x384 .f32 := win0_6.stage (cfg0.slots t 6)
abbrev hs0_6 (t : Fin cfg0.N) : (ms0_6 t).IsWhole := hstage0_6 ((cfg0.slots t 6).cast nbuf0_6)
abbrev scM0_0 : Memref sig .tc .vmem S8x3x256x256 .bf16 := Memref.whole cc0_scratch0
abbrev scM0_1 : Memref sig .tc .vmem S2048x1536 .fp8e4m3 := Memref.whole cc0_scratch1
abbrev VS0_0 : View sig .tc .vmem S8x3x256x256 .bf16 := scM0_0.view
abbrev VS0_1 : View sig .tc .vmem S2048x1536 .fp8e4m3 := scM0_1.view

/-- The launch's invariant with the two scratch arrays owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The first point. -/
abbrev t0 : Fin cfg0.N := ⟨0, by rw [show cfg0.N = 5 from N_0]; decide⟩

/-- The building half run at point `t`, and the other half. -/
abbrev bldAt (c : Dev nD) (t : Fin cfg0.N) (x1 : Vec F S1x2048 .f32) (x2 : Vec F S512x1536 .i8) :=
  runBld c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) x1 x2
abbrev mainAt (c : Dev nD) (t : Fin cfg0.N) (x0 : Vec F S384x2048 .bf16) (x3 : Vec F S1 .f32) (xs0 : Vec F S8x3x256x256 .bf16) (xs1 : Vec F S2048x1536 .fp8e4m3) :=
  runMain c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) x0 x3 xs0 xs1

theorem cover_gh (c : Dev nD) (t : Fin cfg0.N) (x1 : Vec F S1x2048 .f32) (x2 : Vec F S512x1536 .i8) (y : S8x3x256x256.Idx) :
    ∃ pc ∈ (bldAt c t x1 x2).1, y ∈ pc.1.set :=
  View.cover_of_tiledL (bldAt c t x1 x2).1 S1x1x128x128.size (by sl_kernel_rfl) y
theorem cover_w (c : Dev nD) (t : Fin cfg0.N) (x1 : Vec F S1x2048 .f32) (x2 : Vec F S512x1536 .i8) (y : S2048x1536.Idx) :
    ∃ pc ∈ (bldAt c t x1 x2).2.1, y ∈ pc.1.set :=
  View.cover_of_tiledL (bldAt c t x1 x2).2.1 S512x1536.size (by sl_kernel_rfl) y
theorem cover_y (c : Dev nD) (t : Fin cfg0.N) (x0 : Vec F S384x2048 .bf16) (x3 : Vec F S1 .f32) (xs0 : Vec F S8x3x256x256 .bf16) (xs1 : Vec F S2048x1536 .fp8e4m3) (y : S384x1536.Idx) :
    ∃ pc ∈ (mainAt c t x0 x3 xs0 xs1).1, y ∈ pc.1.set :=
  View.cover_of_tiledL (mainAt c t x0 x3 xs0 xs1).1 S384x256.size (by sl_kernel_rfl) y
theorem cover_c (c : Dev nD) (t : Fin cfg0.N) (x0 : Vec F S384x2048 .bf16) (x3 : Vec F S1 .f32) (xs0 : Vec F S8x3x256x256 .bf16) (xs1 : Vec F S2048x1536 .fp8e4m3) (y : S384x2048.Idx) :
    ∃ pc ∈ (mainAt c t x0 x3 xs0 xs1).2.1, y ∈ pc.1.set :=
  View.cover_of_tiledL (mainAt c t x0 x3 xs0 xs1).2.1 S384x256.size (by sl_kernel_rfl) y

/-- What the first point leaves in the scratch arrays. -/
def ghOut (c : Dev nD) : Vec F S8x3x256x256 .bf16 := VS0_0.read (Elt F) (VS0_0.writes (Elt F) VS0_0.junk (bldAt c t0 (iblk m c 1 t0) (iblk m c 2 t0)).1)
def wOut (c : Dev nD) : Vec F S2048x1536 .fp8e4m3 := VS0_1.read (Elt F) (VS0_1.writes (Elt F) VS0_1.junk (bldAt c t0 (iblk m c 1 t0) (iblk m c 2 t0)).2.1)
/-- The run of a point's other half on what the point finds. -/
abbrev mainRun (c : Dev nD) (t : Fin cfg0.N) := mainAt c t (iblk m c 0 t) (iblk m c 3 t) (ghOut m c) (wOut m c)
/-- What a point leaves in the buffers of the first two results. -/
def yOut (c : Dev nD) (t : Fin cfg0.N) : Vec F S384x1536 .bf16 := VO0_4.read (Elt F) (VO0_4.writes (Elt F) VO0_4.junk (mainRun m c t).1)
def cOut (c : Dev nD) (t : Fin cfg0.N) : Vec F S384x2048 .i8 := VO0_5.read (Elt F) (VO0_5.writes (Elt F) VO0_5.junk (mainRun m c t).2.1)
/-- What a point leaves in the scales' buffer, of which only its own row is its own. -/
def sOut (c : Dev nD) (t : Fin cfg0.N) : Vec F S5x384 .f32 := VO0_6.read (Elt F) (VO0_6.writes (Elt F) VO0_6.junk (mainRun m c t).2.2.1)

/-- The row a point stores: its own. -/
theorem off1_eq : ∀ t : Fin cfg0.N, k0_off1 (grid0.coords t) = ![t.val, 0] :=
  (by decide +kernel : ∀ t : Fin grid0.N, k0_off1 (grid0.coords t) = ![t.val, 0])

theorem row_self (c : Dev nD) (t : Fin cfg0.N) (v : View sig .tc .vmem S5x384 .f32) (f : v.ty.Contents (Elt F)) (y : S5x384.Idx) (h : (y 0).val = t.val) :
    v.read (Elt F) (v.writes (Elt F) f (mainRun m c t).2.2.1) y = sOut m c t y := by
  let x : S1x384.Idx := fun a => match a with | ⟨0, _⟩ => ⟨0, Nat.zero_lt_one⟩ | ⟨1, _⟩ => y 1
  have hx : ∀ a, (y a).val = (![t.val, 0] : Fin 2 → ℕ) a + (x a).val := fun a => match a with
    | ⟨0, _⟩ => h.trans (Nat.add_zero _).symm
    | ⟨1, _⟩ => (Nat.zero_add _).symm
  unfold sOut
  refine (View.read_writes_cons_unit_of_mem v f (k0_off1_inb (grid0.coords t)) _ [] y x (off1_eq t) hx).trans ?_
  exact (View.read_writes_cons_unit_of_mem (Val := Elt F) VO0_6 (VO0_6.junk (Val := Elt F)) (k0_off1_inb (grid0.coords t)) _ [] y x (off1_eq t) hx).symm

theorem row_other (c : Dev nD) (t : Fin cfg0.N) (v : View sig .tc .vmem S5x384 .f32) (f : v.ty.Contents (Elt F)) (y : S5x384.Idx) (h : (y 0).val < t.val) :
    v.read (Elt F) (v.writes (Elt F) f (mainRun m c t).2.2.1) y = v.read (Elt F) f y :=
  View.read_writes_cons_unit_of_not_mem v f (k0_off1_inb (grid0.coords t)) _ [] y (off1_eq t) 0 (.inl h)

/-- The windows held to a predicate: the three results. -/
def fgt : Fin cfg0.W → Bool := fun w => match w with
  | ⟨4, _⟩ => true | ⟨5, _⟩ => true | ⟨6, _⟩ => true | _ => false

/-- What a point leaves in a result's buffer: of the scales, the rows of the points so far. -/
def Rl (c : Dev nD) (w : Fin cfg0.W) (t : Fin cfg0.N) : ((cfg0.win w).block.Idx → Elt F (cfg0.win w).elt) → Prop :=
  match w with
  | ⟨4, _⟩ => fun (X : Vec F S384x1536 .bf16) => X = yOut m c t
  | ⟨5, _⟩ => fun (X : Vec F S384x2048 .i8) => X = cOut m c t
  | ⟨6, _⟩ => fun (X : Vec F S5x384 .f32) => ∀ (s : Fin cfg0.N) (y : S5x384.Idx), s.val ≤ t.val → (y 0).val = s.val → X y = sOut m c s y
  | _ => fun _ => True

/-- The invariant: the scratch at anything before the first point, at what that point built after it. -/
def PhiS (c : Dev nD) (n : ℕ) : sProp 𝕄 :=
  if n = 0 then Pipeline.ΦA spec0 c
  else iprop(iprop(owns (c : Thread nD τ) scM0_0 fullShare (ghOut m c) ∗ owns (c : Thread nD τ) scM0_1 fullShare (wOut m c)) ∗ (∃ r, prngReg c r))

theorem PhiS_zero (c : Dev nD) (n : ℕ) (hz : n = 0) : PhiS m c n = Pipeline.ΦA spec0 c := if_pos hz
theorem PhiS_pos (c : Dev nD) (n : ℕ) (hz : n ≠ 0) :
    PhiS m c n = iprop(iprop(owns (c : Thread nD τ) scM0_0 fullShare (ghOut m c) ∗ owns (c : Thread nD τ) scM0_1 fullShare (wOut m c)) ∗ (∃ r, prngReg c r)) := if_neg hz

/-- The proof data: each input's buffer at its block, the results' given by `Rl`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yOut m c t
    | ⟨5, _⟩ => cOut m c t
    | ⟨6, _⟩ => sOut m c t
  Φ t := PhiS m c t.val
  q _ := fullShare
  owed _ := 0

theorem A_eq (c : Dev nD) (w : Fin cfg0.W) : (dats m c).A w = V m c (Pipeline.arrRef spec0 w) := by
  dsimp only [dats]
theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem before0_0 (c : Dev nD) (t : Fin cfg0.N) (d) : (dats m c).before 0 t d = iblk m c 0 t := before0_0_of m (dats m c) (A_eq m c 0) (after0_0 m c) t d
theorem before0_1 (c : Dev nD) (t : Fin cfg0.N) (d) : (dats m c).before 1 t d = iblk m c 1 t := before0_1_of m (dats m c) (A_eq m c 1) (after0_1 m c) t d
theorem before0_2 (c : Dev nD) (t : Fin cfg0.N) (d) : (dats m c).before 2 t d = iblk m c 2 t := before0_2_of m (dats m c) (A_eq m c 2) (after0_2 m c) t d
theorem before0_3 (c : Dev nD) (t : Fin cfg0.N) (d) : (dats m c).before 3 t d = iblk m c 3 t := before0_3_of m (dats m c) (A_eq m c 3) (after0_3 m c) t d

abbrev rdat (c : Dev nD) := (dats m c).toRRel fgt (Rl m c)

/-- What a point finds in the scales' buffer: after the first point, the rows of the points before it. -/
theorem finds6 (c : Dev nD) (t : Fin cfg0.N) (Y : Vec F S5x384 .f32) (h : (rdat m c).Finds 6 t Y)
    (s : Fin cfg0.N) (y : S5x384.Idx) (hs : s.val < t.val) (hy : (y 0).val = s.val) : Y y = sOut m c s y := by
  have hN : t.val < 5 := lt_of_lt_of_eq t.isLt (show cfg0.N = 5 from N_0)
  have hf : (cfg0.win 6).fetch t = false := Window.fetch_out _ rfl t
  rcases ((rdat m c).finds_of_pos hf (by omega) Y).mp h with h | h
  · exact absurd ((flush0_6 _).mp h) (by dsimp only; omega)
  · exact (dats m c).toRRel_leaves (fgt := fgt) (Rl := Rl m c) (w := 6) rfl h s y (by dsimp only; omega) hy

/-- What the body is called with at a point, the windows one by one, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y))

/-- and what it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ (∃ X, ⌜Rl m c 4 t X⌝ ∗ owns (c : Thread nD τ) (ms0_4 t) fullShare X)
    ∗ (∃ X, ⌜Rl m c 5 t X⌝ ∗ owns (c : Thread nD τ) (ms0_5 t) fullShare X)
    ∗ (∃ X, ⌜Rl m c 6 t X⌝ ∗ owns (c : Thread nD τ) (ms0_6 t) fullShare X))

set_option maxHeartbeats 1600000 in
/-- The half that every point runs, from the scratch as the first point builds it. -/
theorem sound_main (c : Dev nD) (t : Fin cfg0.N) :
    iprop((iprop(owns (c : Thread nD τ) scM0_0 fullShare (ghOut m c) ∗ owns (c : Thread nD τ) scM0_1 fullShare (wOut m c)) ∗ (∃ r, prngReg c r))
      ∗ (dats m c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ (∃ Y, owns (c : Thread nD τ) (ms0_4 t) fullShare Y)
      ∗ (∃ Y, owns (c : Thread nD τ) (ms0_5 t) fullShare Y)
      ∗ (∃ Y, ⌜(rdat m c).Finds 6 t Y⌝ ∗ owns (c : Thread nD τ) (ms0_6 t) fullShare Y))
    ⊢ wp frame (wpE (defs₀ (F := F)) Variants.none c none) Set.univ (mainProg (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)) (fun _ => bodyPost m c t) := by
  unfold bodyPost
  rw [show (dats m c).owesAt () t.succ = (dats m c).owesAt () t.castSucc from rfl,
    after0_0, after0_1, after0_2, after0_3]
  rw [show (dats m c).Φ t.succ = PhiS m c (t.val + 1) from rfl, PhiS_pos m c _ (Nat.succ_ne_zero _)]
  iintro ⟨⟨⟨HS0, HS1⟩, Hg⟩, Ho, H0, H1, H2, H3, ⟨%d4, H4⟩, ⟨%d5, H5⟩, ⟨%d6, %hd6, H6⟩⟩
  iapply ((mainRun m c t).2.2.2 d6 Set.univ _)
  isplitl [H0]; · iexact H0
  isplitl [H3]; · iexact H3
  isplitl [H4]; · iexists _; iexact H4
  isplitl [H5]; · iexists _; iexact H5
  isplitl [H6]; · iexact H6
  isplitl [HS0]; · iexact HS0
  isplitl [HS1]; · iexact HS1
  iintro ⟨H0, H3, ⟨%e4, H4⟩, ⟨%e5, H5⟩, ⟨%e6, %he6, H6⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]
  · iexists (yOut m c t); isplitr
    · ipureintro; exact rfl
    unfold owns; iexists _; isplitr
    swap; · iexact H4
    ipureintro; exact View.read_writes_of_cover _ _ _ _ _ (cover_y c t _ _ _ _)
  isplitl [H5]
  · iexists (cOut m c t); isplitr
    · ipureintro; exact rfl
    unfold owns; iexists _; isplitr
    swap; · iexact H5
    ipureintro; exact View.read_writes_of_cover _ _ _ _ _ (cover_c c t _ _ _ _)
  iexists ((ms0_6 t).view.read (Elt F) ((ms0_6 t).view.writes (Elt F) e6 (mainRun m c t).2.2.1)); isplitr
  · ipureintro
    intro s y hs hy
    rcases Nat.lt_or_eq_of_le hs with h | h
    · rw [row_other m c t _ _ y (by omega), he6]
      exact finds6 m c t d6 hd6 s y h hy
    · obtain rfl : s = t := Fin.ext h
      exact row_self m c s _ _ y hy
  unfold owns; iexists _; isplitr
  swap; · iexact H6
  ipureintro; rfl

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3]
  rw [show (dats m c).Φ t.castSucc = PhiS m c t.val from rfl]
  by_cases hz : t.val = 0
  · obtain rfl : t = t0 := Fin.ext hz
    rw [PhiS_zero m c _ hz, PhiA0_eq, body_true _ _ _ _ _ _ _ _ _ _ _ _ _ _ _ _ _ _ _ ((hcond _).mpr hz), wp_bind]
    iintro ⟨⟨⟨HS0, HS1⟩, Hg⟩, Ho, ⟨%d0, H0⟩, ⟨%d1, H1⟩, ⟨%d2, H2⟩, ⟨%d3, H3⟩, ⟨%d4, -, H4⟩, ⟨%d5, -, H5⟩, H6⟩
    iapply ((bldAt c t0 (iblk m c 1 t0) (iblk m c 2 t0)).2.2 Set.univ _)
    isplitl [H1]; · iexact H1
    isplitl [H2]; · iexact H2
    isplitl [HS0]; · iexact HS0
    isplitl [HS1]; · iexact HS1
    iintro ⟨H1, H2, ⟨%es0, HS0⟩, ⟨%es1, HS1⟩⟩
    iapply (sound_main m c t0)
    isplitl [HS0 HS1 Hg]
    · isplitl [HS0 HS1]
      · isplitl [HS0]
        · unfold owns; iexists _; isplitr
          swap; · iexact HS0
          ipureintro; exact View.read_writes_of_cover _ _ _ _ _ (cover_gh c t0 _ _)
        unfold owns; iexists _; isplitr
        swap; · iexact HS1
        ipureintro; exact View.read_writes_of_cover _ _ _ _ _ (cover_w c t0 _ _)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexact H6
  · rw [PhiS_pos m c _ hz, body_false _ _ _ _ _ _ _ _ _ _ _ _ _ _ _ _ _ _ _ (fun h => hz ((hcond _).mp h))]
    iintro ⟨HP, Ho, ⟨%d0, H0⟩, ⟨%d1, H1⟩, ⟨%d2, H2⟩, ⟨%d3, H3⟩, ⟨%d4, -, H4⟩, ⟨%d5, -, H5⟩, H6⟩
    iapply (sound_main m c t)
    isplitl [HP]; · iexact HP
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats (F := F) m c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = PhiS m c 0 from rfl, PhiS_zero m c 0 rfl]

theorem hout (c : Dev nD) : (rdat m c).Φ (Fin.last cfg0.N) ⊢ Pipeline.ΦA spec0 c := by
  rw [show (rdat m c).Φ (Fin.last cfg0.N) = PhiS m c cfg0.N from rfl, PhiS_pos m c _ (by rw [show cfg0.N = 5 from N_0]; decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch, with every semaphore counter at zero at the end. -/
theorem run_main : θ_run defs (onTc (τ := τ) (main (F := F))) (s₀ m ρ) (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m c).share_full fun _ => rfl)
    (howed := fun _ _ => rfl) (V := V m) (hmain := hmain m Variants.none) (hA := A_eq m) (hin := hin m) (hout := hout m)

end Cert.Kernel.Own

end
-- ==== Proof.BitsFinal.lean ====
/- The same for the kernel as printed, over the words of the float formats. The results' arrays after the run, element by element, and the frame. -/
module

public import proofs.«01_k».proof.Proof.BitsRun
public import Idealize.ShloMosaic.Lib.Pipeline.ValueKit

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point whose block holds row `i`, and the row's place in the block. -/
def rowPt (i : ℕ) (h : i < 1920) : Fin cfg0.N := ⟨i / 384, by rw [show cfg0.N = 5 from N_0]; omega⟩
def rowIn (i : ℕ) : Fin 384 := ⟨i % 384, Nat.mod_lt _ (by decide)⟩

/-- The arrays of the results after the run. -/
def G4 (c : Dev nD) : Buf (Elt F) ((c : Thread nD τ).loc main_v2_0) := fun (i : S1920x1536.Idx) =>
  yOut m c (rowPt (i 0).val (i 0).isLt) (ix2 (rowIn (i 0).val) (i 1))
def G5 (c : Dev nD) : Buf (Elt F) ((c : Thread nD τ).loc main_v2_1) := fun (i : S1920x2048.Idx) =>
  cOut m c (rowPt (i 0).val (i 0).isLt) (ix2 (rowIn (i 0).val) (i 1))
def G6 (c : Dev nD) : Buf (Elt F) ((c : Thread nD τ).loc main_v2_2) := fun (i : S5x384.Idx) =>
  sOut m c ⟨(i 0).val, by rw [show cfg0.N = 5 from N_0]; exact (i 0).isLt⟩ i

theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem final4 (c : Dev nD) (D : Dat τ (Elt F) Unit ℕ (UR sig nD τ) ℕ cfg0 c) (h : ∀ t, D.after 4 t = yOut m c t) : D.arrAt 4 cfg0.N = G4 m c := by
  refine D.arrAt_eq_of_covers 4 _ (by decide +kernel) fun t hf y => ?_
  rw [h]
  obtain ⟨e0, e1⟩ := idx4 t
  have hy0 : (y 0).val < 384 := (y 0).isLt
  have hy1 : (y 1).val < 1536 := (y 1).isLt
  have hb0 : (((cfg0.win 4).blk t).view.emb y 0).val = win0_4.index t (0 : Fin 2) * 384 + 1 * (y 0).val := rfl
  have hb1 : (((cfg0.win 4).blk t).view.emb y 1).val = win0_4.index t (1 : Fin 2) * 1536 + 1 * (y 1).val := rfl
  show yOut m c t ((cfg0.win 4).xinj (grid0.coords t) y) = yOut m c (rowPt (((cfg0.win 4).blk t).view.emb y 0).val _) (ix2 (rowIn (((cfg0.win 4).blk t).view.emb y 0).val) (((cfg0.win 4).blk t).view.emb y 1))
  congr 1
  · apply Fin.ext
    show t.val = (((cfg0.win 4).blk t).view.emb y 0).val / 384
    rw [hb0, e0]; omega
  · funext a; apply Fin.ext
    match a with
    | ⟨0, _⟩ => show (y 0).val = (((cfg0.win 4).blk t).view.emb y 0).val % 384; rw [hb0]; omega
    | ⟨1, _⟩ => show (y 1).val = (((cfg0.win 4).blk t).view.emb y 1).val; rw [hb1, e1]; omega

theorem final5 (c : Dev nD) (D : Dat τ (Elt F) Unit ℕ (UR sig nD τ) ℕ cfg0 c) (h : ∀ t, D.after 5 t = cOut m c t) : D.arrAt 5 cfg0.N = G5 m c := by
  refine D.arrAt_eq_of_covers 5 _ (by decide +kernel) fun t hf y => ?_
  rw [h]
  obtain ⟨e0, e1⟩ := idx5 t
  have hy0 : (y 0).val < 384 := (y 0).isLt
  have hy1 : (y 1).val < 2048 := (y 1).isLt
  have hb0 : (((cfg0.win 5).blk t).view.emb y 0).val = win0_5.index t (0 : Fin 2) * 384 + 1 * (y 0).val := rfl
  have hb1 : (((cfg0.win 5).blk t).view.emb y 1).val = win0_5.index t (1 : Fin 2) * 2048 + 1 * (y 1).val := rfl
  show cOut m c t ((cfg0.win 5).xinj (grid0.coords t) y) = cOut m c (rowPt (((cfg0.win 5).blk t).view.emb y 0).val _) (ix2 (rowIn (((cfg0.win 5).blk t).view.emb y 0).val) (((cfg0.win 5).blk t).view.emb y 1))
  congr 1
  · apply Fin.ext
    show t.val = (((cfg0.win 5).blk t).view.emb y 0).val / 384
    rw [hb0, e0]; omega
  · funext a; apply Fin.ext
    match a with
    | ⟨0, _⟩ => show (y 0).val = (((cfg0.win 5).blk t).view.emb y 0).val % 384; rw [hb0]; omega
    | ⟨1, _⟩ => show (y 1).val = (((cfg0.win 5).blk t).view.emb y 1).val; rw [hb1, e1]; omega

/-- The last point. -/
abbrev t4 : Fin cfg0.N := ⟨4, by rw [show cfg0.N = 5 from N_0]; decide⟩

theorem final6 (c : Dev nD) (D : Dat τ (Elt F) Unit ℕ (UR sig nD τ) ℕ cfg0 c)
    (h : ∀ (s : Fin cfg0.N) (y : S5x384.Idx), (y 0).val = s.val → D.after 6 t4 y = sOut m c s y) : D.arrAt 6 cfg0.N = G6 m c := by
  funext i
  refine (D.arrAt_emb_eq_after_last 6 t4 (by decide +kernel) i).trans ?_
  exact h ⟨(i 0).val, _⟩ i rfl

/-- The run, read: the results as their points leave them, the arguments unchanged, every counter at zero. -/
theorem run : θ_run defs (onTc (τ := τ) (main (F := F))) ⟨m, fun _ => 0, ρ⟩ fun r => (∀ c : Dev nD,
      r.2.mem ((c.tc : Thread nD τ).loc main_v2_0) = G4 m c
      ∧ r.2.mem ((c.tc : Thread nD τ).loc main_v2_1) = G5 m c
      ∧ r.2.mem ((c.tc : Thread nD τ).loc main_v2_2) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => by
    obtain ⟨after, hL, hA⟩ := Pipeline.RDat.FramePost.exists_exact h.1 c
    have hN : cfg0.N = 5 := N_0
    refine ⟨(hA 4).trans (final4 m c _ fun t => (dats m c).toRRel_leaves (fgt := fgt) (Rl := Rl m c) (w := 4) rfl (hL 4 t (flush0_4 t))),
      (hA 5).trans (final5 m c _ fun t => (dats m c).toRRel_leaves (fgt := fgt) (Rl := Rl m c) (w := 5) rfl (hL 5 t (flush0_5 t))),
      (hA 6).trans (final6 m c _ fun s y hy => (dats m c).toRRel_leaves (fgt := fgt) (Rl := Rl m c) (w := 6) rfl (hL 6 t4 ((flush0_6 t4).mpr rfl)) s y (by have := s.isLt; show s.val ≤ 4; omega) hy),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c))⟩, h.2⟩)
    (run_main m ρ)

end Cert.Kernel.Own

end
-- ==== Proof.lean ====
/- The proof of the five claims: the kernel's frame and its ideal form's, the reference's frame, that nothing was rewritten, and that the ideal
   kernel computes the ideal reference's three results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import proofs.«01_k».proof.Proof.BitsFinal
public import Idealize.ShloMosaic.Adequacy
public import Idealize.ShloMosaic.Init

@[expose] public section

set_option maxRecDepth 16384

noncomputable section

namespace Cert.Proof

open Idealize.ShloMosaic Idealize.SL.Sem Cert.Kernel

theorem frame_reference : Cert.quiescent_ReferenceIdeal := by
  intro m g _
  exact (θ_run _ _ _).mono (fun r h => ⟨fun c => (h c).2.2.2,
    Idealize.ShloMosaic.sem_eq_zero_of_no_sems (by decide) r.2⟩) (Cert.ReferenceIdeal.Value.run (F := Ideal) m g)

theorem frame_kernel : Cert.quiescent_Kernel := fun m g _ =>
  (θ_run _ _ _).mono (fun r h => ⟨fun c => (h.1 c).2.2.2, h.2⟩) (Cert.Kernel.Own.run m g)

theorem frame_ideal : Cert.quiescent_KernelIdeal := fun m g _ =>
  (θ_run _ _ _).mono (fun r h => ⟨fun c => (h.1 c).2.2.2, h.2⟩) (Cert.KernelIdeal.Own.run (F := Ideal) m g)

theorem algebraic : Cert.algebraic_KernelIdeal_ReferenceIdeal := by
  intro m g m' g' _ hargs
  refine ⟨fun c => Cert.KernelIdeal.Own.G4 m c, fun c => Cert.KernelIdeal.Own.G5 m c, fun c => Cert.KernelIdeal.Own.G6 m c,
    (θ_run _ _ _).mono (fun r h => h.1) (Cert.KernelIdeal.Own.run (F := Ideal) m g),
    (θ_run _ _ _).mono (fun r h c => ?_) (Cert.ReferenceIdeal.Value.run (F := Ideal) m' g')⟩
  obtain ⟨h4, h5, h6, ha⟩ := h c
  have e4 := (Cert.Equal.eq4 m m' c (hargs c)).symm
  have e5 := (Cert.Equal.eq5 m m' c (hargs c)).symm
  have e6 := (Cert.Equal.eq6 m m' c (hargs c)).symm
  unfold Cert.ReferenceIdeal.Own.yR at e4
  refine ⟨?_, ?_, ?_, ha⟩
  · exact h4.trans e4
  · exact h5.trans e5
  · exact h6.trans ((id_eq _).trans e6)

theorem claim : Cert.Claim := ⟨Cert.Kernel.Gen.facts, Cert.KernelIdeal.Gen.facts, Cert.ReferenceIdeal.Gen.facts,
  frame_kernel, frame_ideal, frame_reference, trivial, algebraic⟩

end Cert.Proof

end
